-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3072x7168 : Shape := ⟨3, ![8, 3072, 7168]⟩
abbrev S8192x7168 : Shape := ⟨2, ![8192, 7168]⟩
abbrev S64x56 : Shape := ⟨2, ![64, 56]⟩
abbrev S_ : Shape := ⟨0, ![]⟩

class Facts : Prop where
  bitsLt_bf16_f32 : FTy.bits .bf16 < FTy.bits .f32
  bcast_S_S8x3072x7168 : S_.BroadcastsInDim S8x3072x7168 (![] : Fin 0 → Fin S8x3072x7168.rank)

variable [Facts]

def fn {F : FTy → Type} [FloatOps F] (main_arg0 : FVec F S8x3072x7168 .bf16) (main_arg1 : FVec F S8192x7168 .fp8e4m3) (main_arg2 : FVec F S64x56 .f32) : IVec S8x3072x7168 1 :=
  let main_v0 : FVec F S8x3072x7168 .f32 := (extf .f32 · bitsLt_bf16_f32) main_arg0
  let main_v1 : FVec F S8x3072x7168 .f32 := Host.absf main_v0
  let main_cst : FVec F S_ .f32 := constant S_ .f32 0x7F7F0000#32
  let main_v2 : FVec F S8x3072x7168 .f32 := broadcastInDim S8x3072x7168 ![] bcast_S_S8x3072x7168 main_cst
  let main_v3 : IVec S8x3072x7168 1 := cmpf .ole main_v1 main_v2
  main_v3
-- ==== Kernel.lean ====
abbrev S8x3072x7168 : Shape := ⟨3, ![8, 3072, 7168]⟩
abbrev S8192x7168 : Shape := ⟨2, ![8192, 7168]⟩
abbrev S64x56 : Shape := ⟨2, ![64, 56]⟩
abbrev S24576x7168 : Shape := ⟨2, ![24576, 7168]⟩
abbrev S24576x8192 : Shape := ⟨2, ![24576, 8192]⟩
abbrev S24576x56 : Shape := ⟨2, ![24576, 56]⟩
abbrev S512x7168 : Shape := ⟨2, ![512, 7168]⟩
abbrev S512x512 : Shape := ⟨2, ![512, 512]⟩
abbrev S512x56 : Shape := ⟨2, ![512, 56]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x1 : Shape := ⟨2, ![1, 1]⟩
abbrev S128x256 : Shape := ⟨2, ![128, 256]⟩
abbrev S512x256 : Shape := ⟨2, ![512, 256]⟩

abbrev nBuf : Space → Nat
  | .hbm => 7
  | .vmem => 11
  | .smem => 1
  | _ => 0

abbrev bufTy : (tb : Table) → Fin (tcTables nBuf tb) → BufTy
  | .hbm, ⟨0, _⟩ => ⟨S8x3072x7168, .bf16⟩
  | .hbm, ⟨1, _⟩ => ⟨S8192x7168, .fp8e4m3⟩
  | .hbm, ⟨2, _⟩ => ⟨S64x56, .f32⟩
  | .hbm, ⟨3, _⟩ => ⟨S24576x7168, .bf16⟩
  | .hbm, ⟨4, _⟩ => ⟨S24576x8192, .bf16⟩
  | .hbm, ⟨5, _⟩ => ⟨S24576x7168, .fp8e4m3⟩
  | .hbm, ⟨6, _⟩ => ⟨S24576x56, .f32⟩
  | .local _ .vmem, ⟨0, _⟩ => ⟨S512x7168, .bf16⟩
  | .local _ .vmem, ⟨1, _⟩ => ⟨S512x7168, .bf16⟩
  | .local _ .vmem, ⟨2, _⟩ => ⟨S512x7168, .fp8e4m3⟩
  | .local _ .vmem, ⟨3, _⟩ => ⟨S512x7168, .fp8e4m3⟩
  | .local _ .vmem, ⟨4, _⟩ => ⟨S512x512, .bf16⟩
  | .local _ .vmem, ⟨5, _⟩ => ⟨S512x512, .bf16⟩
  | .local _ .vmem, ⟨6, _⟩ => ⟨S512x7168, .fp8e4m3⟩
  | .local _ .vmem, ⟨7, _⟩ => ⟨S512x7168, .fp8e4m3⟩
  | .local _ .vmem, ⟨8, _⟩ => ⟨S512x56, .f32⟩
  | .local _ .vmem, ⟨9, _⟩ => ⟨S512x56, .f32⟩
  | .local _ .vmem, ⟨10, _⟩ => ⟨S512x7168, .bf16⟩
  | .local _ .smem, ⟨0, _⟩ => ⟨S64x56, .f32⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![48, 16], ![false, false]⟩

def k0_off1 (i : grid0.Coords) (c0_i32_2 : BitVec 32) : Fin 2 → Nat :=
  let arg1 : BitVec 32 := BitVec.ofNat 32 (i 1).val
  let c4_i32 : BitVec 32 := 4#32
  let v4 : BitVec 32 := Scalar.muli arg1 c4_i32
  let v5 : BitVec 32 := Scalar.addi v4 c0_i32_2
  let v6 : Index := Scalar.indexCast v5
  let c0_3 : Index := 0#32
  ![v6.toNat, 0]
def k0_off2 (i : grid0.Coords) (c0_i32_6 : BitVec 32) : Fin 2 → Nat :=
  let arg1 : BitVec 32 := BitVec.ofNat 32 (i 1).val
  let c4_i32_5 : BitVec 32 := 4#32
  let v13 : BitVec 32 := Scalar.muli arg1 c4_i32_5
  let v14 : BitVec 32 := Scalar.addi v13 c0_i32_6
  let v15 : Index := Scalar.indexCast v14
  let c1 : Index := 1#32
  ![v15.toNat, 1]
def k0_off3 (i : grid0.Coords) (c0_i32_37 : BitVec 32) : Fin 2 → Nat :=
  let arg1 : BitVec 32 := BitVec.ofNat 32 (i 1).val
  let c4_i32_36 : BitVec 32 := 4#32
  let v83 : BitVec 32 := Scalar.muli arg1 c4_i32_36
  let v84 : BitVec 32 := Scalar.addi v83 c0_i32_37
  let v85 : Index := Scalar.indexCast v84
  let c2 : Index := 2#32
  ![v85.toNat, 2]
def k0_off4 (i : grid0.Coords) (c0_i32_41 : BitVec 32) : Fin 2 → Nat :=
  let arg1 : BitVec 32 := BitVec.ofNat 32 (i 1).val
  let c4_i32_40 : BitVec 32 := 4#32
  let v92 : BitVec 32 := Scalar.muli arg1 c4_i32_40
  let v93 : BitVec 32 := Scalar.addi v92 c0_i32_41
  let v94 : Index := Scalar.indexCast v93
  let c3 : Index := 3#32
  ![v94.toNat, 3]
def k0_off5 (i : grid0.Coords) (c0_i32_77 : BitVec 32) : Fin 2 → Nat :=
  let arg1 : BitVec 32 := BitVec.ofNat 32 (i 1).val
  let c4_i32_76 : BitVec 32 := 4#32
  let v163 : BitVec 32 := Scalar.muli arg1 c4_i32_76
  let v164 : BitVec 32 := Scalar.addi v163 c0_i32_77
  let v165 : Index := Scalar.indexCast v164
  let c4 : Index := 4#32
  ![v165.toNat, 4]
def k0_off6 (i : grid0.Coords) (c0_i32_80 : BitVec 32) : Fin 2 → Nat :=
  let arg1 : BitVec 32 := BitVec.ofNat 32 (i 1).val
  let c4_i32_79 : BitVec 32 := 4#32
  let v172 : BitVec 32 := Scalar.muli arg1 c4_i32_79
  let v173 : BitVec 32 := Scalar.addi v172 c0_i32_80
  let v174 : Index := Scalar.indexCast v173
  let c5 : Index := 5#32
  ![v174.toNat, 5]
def k0_off7 (i : grid0.Coords) (c0_i32_116 : BitVec 32) : Fin 2 → Nat :=
  let arg1 : BitVec 32 := BitVec.ofNat 32 (i 1).val
  let c4_i32_115 : BitVec 32 := 4#32
  let v243 : BitVec 32 := Scalar.muli arg1 c4_i32_115
  let v244 : BitVec 32 := Scalar.addi v243 c0_i32_116
  let v245 : Index := Scalar.indexCast v244
  let c6 : Index := 6#32
  ![v245.toNat, 6]
def k0_off8 (i : grid0.Coords) (c0_i32_119 : BitVec 32) : Fin 2 → Nat :=
  let arg1 : BitVec 32 := BitVec.ofNat 32 (i 1).val
  let c4_i32_118 : BitVec 32 := 4#32
  let v252 : BitVec 32 := Scalar.muli arg1 c4_i32_118
  let v253 : BitVec 32 := Scalar.addi v252 c0_i32_119
  let v254 : Index := Scalar.indexCast v253
  let c7 : Index := 7#32
  ![v254.toNat, 7]
def k0_off9 (i : grid0.Coords) (c0_i32_155 : BitVec 32) : Fin 2 → Nat :=
  let arg1 : BitVec 32 := BitVec.ofNat 32 (i 1).val
  let c4_i32_154 : BitVec 32 := 4#32
  let v323 : BitVec 32 := Scalar.muli arg1 c4_i32_154
  let v324 : BitVec 32 := Scalar.addi v323 c0_i32_155
  let v325 : Index := Scalar.indexCast v324
  let c8 : Index := 8#32
  ![v325.toNat, 8]
def k0_off10 (i : grid0.Coords) (c0_i32_158 : BitVec 32) : Fin 2 → Nat :=
  let arg1 : BitVec 32 := BitVec.ofNat 32 (i 1).val
  let c4_i32_157 : BitVec 32 := 4#32
  let v332 : BitVec 32 := Scalar.muli arg1 c4_i32_157
  let v333 : BitVec 32 := Scalar.addi v332 c0_i32_158
  let v334 : Index := Scalar.indexCast v333
  let c9 : Index := 9#32
  ![v334.toNat, 9]
def k0_off11 (i : grid0.Coords) (c0_i32_194 : BitVec 32) : Fin 2 → Nat :=
  let arg1 : BitVec 32 := BitVec.ofNat 32 (i 1).val
  let c4_i32_193 : BitVec 32 := 4#32
  let v403 : BitVec 32 := Scalar.muli arg1 c4_i32_193
  let v404 : BitVec 32 := Scalar.addi v403 c0_i32_194
  let v405 : Index := Scalar.indexCast v404
  let c10 : Index := 10#32
  ![v405.toNat, 10]
def k0_off12 (i : grid0.Coords) (c0_i32_197 : BitVec 32) : Fin 2 → Nat :=
  let arg1 : BitVec 32 := BitVec.ofNat 32 (i 1).val
  let c4_i32_196 : BitVec 32 := 4#32
  let v412 : BitVec 32 := Scalar.muli arg1 c4_i32_196
  let v413 : BitVec 32 := Scalar.addi v412 c0_i32_197
  let v414 : Index := Scalar.indexCast v413
  let c11 : Index := 11#32
  ![v414.toNat, 11]
def k0_off13 (i : grid0.Coords) (c0_i32_233 : BitVec 32) : Fin 2 → Nat :=
  let arg1 : BitVec 32 := BitVec.ofNat 32 (i 1).val
  let c4_i32_232 : BitVec 32 := 4#32
  let v483 : BitVec 32 := Scalar.muli arg1 c4_i32_232
  let v484 : BitVec 32 := Scalar.addi v483 c0_i32_233
  let v485 : Index := Scalar.indexCast v484
  let c12 : Index := 12#32
  ![v485.toNat, 12]
def k0_off14 (i : grid0.Coords) (c0_i32_236 : BitVec 32) : Fin 2 → Nat :=
  let arg1 : BitVec 32 := BitVec.ofNat 32 (i 1).val
  let c4_i32_235 : BitVec 32 := 4#32
  let v492 : BitVec 32 := Scalar.muli arg1 c4_i32_235
  let v493 : BitVec 32 := Scalar.addi v492 c0_i32_236
  let v494 : Index := Scalar.indexCast v493
  let c13 : Index := 13#32
  ![v494.toNat, 13]
def k0_off15 (i : grid0.Coords) (c0_i32_272 : BitVec 32) : Fin 2 → Nat :=
  let arg1 : BitVec 32 := BitVec.ofNat 32 (i 1).val
  let c4_i32_271 : BitVec 32 := 4#32
  let v563 : BitVec 32 := Scalar.muli arg1 c4_i32_271
  let v564 : BitVec 32 := Scalar.addi v563 c0_i32_272
  let v565 : Index := Scalar.indexCast v564
  let c14 : Index := 14#32
  ![v565.toNat, 14]
def k0_off16 (i : grid0.Coords) (c0_i32_275 : BitVec 32) : Fin 2 → Nat :=
  let arg1 : BitVec 32 := BitVec.ofNat 32 (i 1).val
  let c4_i32_274 : BitVec 32 := 4#32
  let v572 : BitVec 32 := Scalar.muli arg1 c4_i32_274
  let v573 : BitVec 32 := Scalar.addi v572 c0_i32_275
  let v574 : Index := Scalar.indexCast v573
  let c15 : Index := 15#32
  ![v574.toNat, 15]
def k0_off17 (i : grid0.Coords) (c0_i32_311 : BitVec 32) : Fin 2 → Nat :=
  let arg1 : BitVec 32 := BitVec.ofNat 32 (i 1).val
  let c4_i32_310 : BitVec 32 := 4#32
  let v643 : BitVec 32 := Scalar.muli arg1 c4_i32_310
  let v644 : BitVec 32 := Scalar.addi v643 c0_i32_311
  let v645 : Index := Scalar.indexCast v644
  let c16 : Index := 16#32
  ![v645.toNat, 16]
def k0_off18 (i : grid0.Coords) (c0_i32_314 : BitVec 32) : Fin 2 → Nat :=
  let arg1 : BitVec 32 := BitVec.ofNat 32 (i 1).val
  let c4_i32_313 : BitVec 32 := 4#32
  let v652 : BitVec 32 := Scalar.muli arg1 c4_i32_313
  let v653 : BitVec 32 := Scalar.addi v652 c0_i32_314
  let v654 : Index := Scalar.indexCast v653
  let c17 : Index := 17#32
  ![v654.toNat, 17]
def k0_off19 (i : grid0.Coords) (c0_i32_350 : BitVec 32) : Fin 2 → Nat :=
  let arg1 : BitVec 32 := BitVec.ofNat 32 (i 1).val
  let c4_i32_349 : BitVec 32 := 4#32
  let v723 : BitVec 32 := Scalar.muli arg1 c4_i32_349
  let v724 : BitVec 32 := Scalar.addi v723 c0_i32_350
  let v725 : Index := Scalar.indexCast v724
  let c18 : Index := 18#32
  ![v725.toNat, 18]
def k0_off20 (i : grid0.Coords) (c0_i32_353 : BitVec 32) : Fin 2 → Nat :=
  let arg1 : BitVec 32 := BitVec.ofNat 32 (i 1).val
  let c4_i32_352 : BitVec 32 := 4#32
  let v732 : BitVec 32 := Scalar.muli arg1 c4_i32_352
  let v733 : BitVec 32 := Scalar.addi v732 c0_i32_353
  let v734 : Index := Scalar.indexCast v733
  let c19 : Index := 19#32
  ![v734.toNat, 19]
def k0_off21 (i : grid0.Coords) (c0_i32_389 : BitVec 32) : Fin 2 → Nat :=
  let arg1 : BitVec 32 := BitVec.ofNat 32 (i 1).val
  let c4_i32_388 : BitVec 32 := 4#32
  let v803 : BitVec 32 := Scalar.muli arg1 c4_i32_388
  let v804 : BitVec 32 := Scalar.addi v803 c0_i32_389
  let v805 : Index := Scalar.indexCast v804
  let c20 : Index := 20#32
  ![v805.toNat, 20]
def k0_off22 (i : grid0.Coords) (c0_i32_392 : BitVec 32) : Fin 2 → Nat :=
  let arg1 : BitVec 32 := BitVec.ofNat 32 (i 1).val
  let c4_i32_391 : BitVec 32 := 4#32
  let v812 : BitVec 32 := Scalar.muli arg1 c4_i32_391
  let v813 : BitVec 32 := Scalar.addi v812 c0_i32_392
  let v814 : Index := Scalar.indexCast v813
  let c21 : Index := 21#32
  ![v814.toNat, 21]
def k0_off23 (i : grid0.Coords) (c0_i32_428 : BitVec 32) : Fin 2 → Nat :=
  let arg1 : BitVec 32 := BitVec.ofNat 32 (i 1).val
  let c4_i32_427 : BitVec 32 := 4#32
  let v883 : BitVec 32 := Scalar.muli arg1 c4_i32_427
  let v884 : BitVec 32 := Scalar.addi v883 c0_i32_428
  let v885 : Index := Scalar.indexCast v884
  let c22 : Index := 22#32
  ![v885.toNat, 22]
def k0_off24 (i : grid0.Coords) (c0_i32_431 : BitVec 32) : Fin 2 → Nat :=
  let arg1 : BitVec 32 := BitVec.ofNat 32 (i 1).val
  let c4_i32_430 : BitVec 32 := 4#32
  let v892 : BitVec 32 := Scalar.muli arg1 c4_i32_430
  let v893 : BitVec 32 := Scalar.addi v892 c0_i32_431
  let v894 : Index := Scalar.indexCast v893
  let c23 : Index := 23#32
  ![v894.toNat, 23]
def k0_off25 (i : grid0.Coords) (c0_i32_467 : BitVec 32) : Fin 2 → Nat :=
  let arg1 : BitVec 32 := BitVec.ofNat 32 (i 1).val
  let c4_i32_466 : BitVec 32 := 4#32
  let v963 : BitVec 32 := Scalar.muli arg1 c4_i32_466
  let v964 : BitVec 32 := Scalar.addi v963 c0_i32_467
  let v965 : Index := Scalar.indexCast v964
  let c24 : Index := 24#32
  ![v965.toNat, 24]
def k0_off26 (i : grid0.Coords) (c0_i32_470 : BitVec 32) : Fin 2 → Nat :=
  let arg1 : BitVec 32 := BitVec.ofNat 32 (i 1).val
  let c4_i32_469 : BitVec 32 := 4#32
  let v972 : BitVec 32 := Scalar.muli arg1 c4_i32_469
  let v973 : BitVec 32 := Scalar.addi v972 c0_i32_470
  let v974 : Index := Scalar.indexCast v973
  let c25 : Index := 25#32
  ![v974.toNat, 25]
def k0_off27 (i : grid0.Coords) (c0_i32_506 : BitVec 32) : Fin 2 → Nat :=
  let arg1 : BitVec 32 := BitVec.ofNat 32 (i 1).val
  let c4_i32_505 : BitVec 32 := 4#32
  let v1043 : BitVec 32 := Scalar.muli arg1 c4_i32_505
  let v1044 : BitVec 32 := Scalar.addi v1043 c0_i32_506
  let v1045 : Index := Scalar.indexCast v1044
  let c26 : Index := 26#32
  ![v1045.toNat, 26]
def k0_off28 (i : grid0.Coords) (c0_i32_509 : BitVec 32) : Fin 2 → Nat :=
  let arg1 : BitVec 32 := BitVec.ofNat 32 (i 1).val
  let c4_i32_508 : BitVec 32 := 4#32
  let v1052 : BitVec 32 := Scalar.muli arg1 c4_i32_508
  let v1053 : BitVec 32 := Scalar.addi v1052 c0_i32_509
  let v1054 : Index := Scalar.indexCast v1053
  let c27 : Index := 27#32
  ![v1054.toNat, 27]
def k0_off29 (i : grid0.Coords) (c0_i32_545 : BitVec 32) : Fin 2 → Nat :=
  let arg1 : BitVec 32 := BitVec.ofNat 32 (i 1).val
  let c4_i32_544 : BitVec 32 := 4#32
  let v1123 : BitVec 32 := Scalar.muli arg1 c4_i32_544
  let v1124 : BitVec 32 := Scalar.addi v1123 c0_i32_545
  let v1125 : Index := Scalar.indexCast v1124
  let c28 : Index := 28#32
  ![v1125.toNat, 28]
def k0_off30 (i : grid0.Coords) (c0_i32_548 : BitVec 32) : Fin 2 → Nat :=
  let arg1 : BitVec 32 := BitVec.ofNat 32 (i 1).val
  let c4_i32_547 : BitVec 32 := 4#32
  let v1132 : BitVec 32 := Scalar.muli arg1 c4_i32_547
  let v1133 : BitVec 32 := Scalar.addi v1132 c0_i32_548
  let v1134 : Index := Scalar.indexCast v1133
  let c29 : Index := 29#32
  ![v1134.toNat, 29]
def k0_off31 (i : grid0.Coords) (c0_i32_584 : BitVec 32) : Fin 2 → Nat :=
  let arg1 : BitVec 32 := BitVec.ofNat 32 (i 1).val
  let c4_i32_583 : BitVec 32 := 4#32
  let v1203 : BitVec 32 := Scalar.muli arg1 c4_i32_583
  let v1204 : BitVec 32 := Scalar.addi v1203 c0_i32_584
  let v1205 : Index := Scalar.indexCast v1204
  let c30 : Index := 30#32
  ![v1205.toNat, 30]
def k0_off32 (i : grid0.Coords) (c0_i32_587 : BitVec 32) : Fin 2 → Nat :=
  let arg1 : BitVec 32 := BitVec.ofNat 32 (i 1).val
  let c4_i32_586 : BitVec 32 := 4#32
  let v1212 : BitVec 32 := Scalar.muli arg1 c4_i32_586
  let v1213 : BitVec 32 := Scalar.addi v1212 c0_i32_587
  let v1214 : Index := Scalar.indexCast v1213
  let c31 : Index := 31#32
  ![v1214.toNat, 31]
def k0_off33 (i : grid0.Coords) (c0_i32_623 : BitVec 32) : Fin 2 → Nat :=
  let arg1 : BitVec 32 := BitVec.ofNat 32 (i 1).val
  let c4_i32_622 : BitVec 32 := 4#32
  let v1283 : BitVec 32 := Scalar.muli arg1 c4_i32_622
  let v1284 : BitVec 32 := Scalar.addi v1283 c0_i32_623
  let v1285 : Index := Scalar.indexCast v1284
  let c32 : Index := 32#32
  ![v1285.toNat, 32]
def k0_off34 (i : grid0.Coords) (c0_i32_626 : BitVec 32) : Fin 2 → Nat :=
  let arg1 : BitVec 32 := BitVec.ofNat 32 (i 1).val
  let c4_i32_625 : BitVec 32 := 4#32
  let v1292 : BitVec 32 := Scalar.muli arg1 c4_i32_625
  let v1293 : BitVec 32 := Scalar.addi v1292 c0_i32_626
  let v1294 : Index := Scalar.indexCast v1293
  let c33 : Index := 33#32
  ![v1294.toNat, 33]
def k0_off35 (i : grid0.Coords) (c0_i32_662 : BitVec 32) : Fin 2 → Nat :=
  let arg1 : BitVec 32 := BitVec.ofNat 32 (i 1).val
  let c4_i32_661 : BitVec 32 := 4#32
  let v1363 : BitVec 32 := Scalar.muli arg1 c4_i32_661
  let v1364 : BitVec 32 := Scalar.addi v1363 c0_i32_662
  let v1365 : Index := Scalar.indexCast v1364
  let c34 : Index := 34#32
  ![v1365.toNat, 34]
def k0_off36 (i : grid0.Coords) (c0_i32_665 : BitVec 32) : Fin 2 → Nat :=
  let arg1 : BitVec 32 := BitVec.ofNat 32 (i 1).val
  let c4_i32_664 : BitVec 32 := 4#32
  let v1372 : BitVec 32 := Scalar.muli arg1 c4_i32_664
  let v1373 : BitVec 32 := Scalar.addi v1372 c0_i32_665
  let v1374 : Index := Scalar.indexCast v1373
  let c35 : Index := 35#32
  ![v1374.toNat, 35]
def k0_off37 (i : grid0.Coords) (c0_i32_701 : BitVec 32) : Fin 2 → Nat :=
  let arg1 : BitVec 32 := BitVec.ofNat 32 (i 1).val
  let c4_i32_700 : BitVec 32 := 4#32
  let v1443 : BitVec 32 := Scalar.muli arg1 c4_i32_700
  let v1444 : BitVec 32 := Scalar.addi v1443 c0_i32_701
  let v1445 : Index := Scalar.indexCast v1444
  let c36 : Index := 36#32
  ![v1445.toNat, 36]
def k0_off38 (i : grid0.Coords) (c0_i32_704 : BitVec 32) : Fin 2 → Nat :=
  let arg1 : BitVec 32 := BitVec.ofNat 32 (i 1).val
  let c4_i32_703 : BitVec 32 := 4#32
  let v1452 : BitVec 32 := Scalar.muli arg1 c4_i32_703
  let v1453 : BitVec 32 := Scalar.addi v1452 c0_i32_704
  let v1454 : Index := Scalar.indexCast v1453
  let c37 : Index := 37#32
  ![v1454.toNat, 37]
def k0_off39 (i : grid0.Coords) (c0_i32_740 : BitVec 32) : Fin 2 → Nat :=
  let arg1 : BitVec 32 := BitVec.ofNat 32 (i 1).val
  let c4_i32_739 : BitVec 32 := 4#32
  let v1523 : BitVec 32 := Scalar.muli arg1 c4_i32_739
  let v1524 : BitVec 32 := Scalar.addi v1523 c0_i32_740
  let v1525 : Index := Scalar.indexCast v1524
  let c38 : Index := 38#32
  ![v1525.toNat, 38]
def k0_off40 (i : grid0.Coords) (c0_i32_743 : BitVec 32) : Fin 2 → Nat :=
  let arg1 : BitVec 32 := BitVec.ofNat 32 (i 1).val
  let c4_i32_742 : BitVec 32 := 4#32
  let v1532 : BitVec 32 := Scalar.muli arg1 c4_i32_742
  let v1533 : BitVec 32 := Scalar.addi v1532 c0_i32_743
  let v1534 : Index := Scalar.indexCast v1533
  let c39 : Index := 39#32
  ![v1534.toNat, 39]
def k0_off41 (i : grid0.Coords) (c0_i32_779 : BitVec 32) : Fin 2 → Nat :=
  let arg1 : BitVec 32 := BitVec.ofNat 32 (i 1).val
  let c4_i32_778 : BitVec 32 := 4#32
  let v1603 : BitVec 32 := Scalar.muli arg1 c4_i32_778
  let v1604 : BitVec 32 := Scalar.addi v1603 c0_i32_779
  let v1605 : Index := Scalar.indexCast v1604
  let c40 : Index := 40#32
  ![v1605.toNat, 40]
def k0_off42 (i : grid0.Coords) (c0_i32_782 : BitVec 32) : Fin 2 → Nat :=
  let arg1 : BitVec 32 := BitVec.ofNat 32 (i 1).val
  let c4_i32_781 : BitVec 32 := 4#32
  let v1612 : BitVec 32 := Scalar.muli arg1 c4_i32_781
  let v1613 : BitVec 32 := Scalar.addi v1612 c0_i32_782
  let v1614 : Index := Scalar.indexCast v1613
  let c41 : Index := 41#32
  ![v1614.toNat, 41]
def k0_off43 (i : grid0.Coords) (c0_i32_818 : BitVec 32) : Fin 2 → Nat :=
  let arg1 : BitVec 32 := BitVec.ofNat 32 (i 1).val
  let c4_i32_817 : BitVec 32 := 4#32
  let v1683 : BitVec 32 := Scalar.muli arg1 c4_i32_817
  let v1684 : BitVec 32 := Scalar.addi v1683 c0_i32_818
  let v1685 : Index := Scalar.indexCast v1684
  let c42 : Index := 42#32
  ![v1685.toNat, 42]
def k0_off44 (i : grid0.Coords) (c0_i32_821 : BitVec 32) : Fin 2 → Nat :=
  let arg1 : BitVec 32 := BitVec.ofNat 32 (i 1).val
  let c4_i32_820 : BitVec 32 := 4#32
  let v1692 : BitVec 32 := Scalar.muli arg1 c4_i32_820
  let v1693 : BitVec 32 := Scalar.addi v1692 c0_i32_821
  let v1694 : Index := Scalar.indexCast v1693
  let c43 : Index := 43#32
  ![v1694.toNat, 43]
def k0_off45 (i : grid0.Coords) (c0_i32_857 : BitVec 32) : Fin 2 → Nat :=
  let arg1 : BitVec 32 := BitVec.ofNat 32 (i 1).val
  let c4_i32_856 : BitVec 32 := 4#32
  let v1763 : BitVec 32 := Scalar.muli arg1 c4_i32_856
  let v1764 : BitVec 32 := Scalar.addi v1763 c0_i32_857
  let v1765 : Index := Scalar.indexCast v1764
  let c44 : Index := 44#32
  ![v1765.toNat, 44]
def k0_off46 (i : grid0.Coords) (c0_i32_860 : BitVec 32) : Fin 2 → Nat :=
  let arg1 : BitVec 32 := BitVec.ofNat 32 (i 1).val
  let c4_i32_859 : BitVec 32 := 4#32
  let v1772 : BitVec 32 := Scalar.muli arg1 c4_i32_859
  let v1773 : BitVec 32 := Scalar.addi v1772 c0_i32_860
  let v1774 : Index := Scalar.indexCast v1773
  let c45 : Index := 45#32
  ![v1774.toNat, 45]
def k0_off47 (i : grid0.Coords) (c0_i32_896 : BitVec 32) : Fin 2 → Nat :=
  let arg1 : BitVec 32 := BitVec.ofNat 32 (i 1).val
  let c4_i32_895 : BitVec 32 := 4#32
  let v1843 : BitVec 32 := Scalar.muli arg1 c4_i32_895
  let v1844 : BitVec 32 := Scalar.addi v1843 c0_i32_896
  let v1845 : Index := Scalar.indexCast v1844
  let c46 : Index := 46#32
  ![v1845.toNat, 46]
def k0_off48 (i : grid0.Coords) (c0_i32_899 : BitVec 32) : Fin 2 → Nat :=
  let arg1 : BitVec 32 := BitVec.ofNat 32 (i 1).val
  let c4_i32_898 : BitVec 32 := 4#32
  let v1852 : BitVec 32 := Scalar.muli arg1 c4_i32_898
  let v1853 : BitVec 32 := Scalar.addi v1852 c0_i32_899
  let v1854 : Index := Scalar.indexCast v1853
  let c47 : Index := 47#32
  ![v1854.toNat, 47]
def k0_off49 (i : grid0.Coords) (c0_i32_935 : BitVec 32) : Fin 2 → Nat :=
  let arg1 : BitVec 32 := BitVec.ofNat 32 (i 1).val
  let c4_i32_934 : BitVec 32 := 4#32
  let v1923 : BitVec 32 := Scalar.muli arg1 c4_i32_934
  let v1924 : BitVec 32 := Scalar.addi v1923 c0_i32_935
  let v1925 : Index := Scalar.indexCast v1924
  let c48 : Index := 48#32
  ![v1925.toNat, 48]
def k0_off50 (i : grid0.Coords) (c0_i32_938 : BitVec 32) : Fin 2 → Nat :=
  let arg1 : BitVec 32 := BitVec.ofNat 32 (i 1).val
  let c4_i32_937 : BitVec 32 := 4#32
  let v1932 : BitVec 32 := Scalar.muli arg1 c4_i32_937
  let v1933 : BitVec 32 := Scalar.addi v1932 c0_i32_938
  let v1934 : Index := Scalar.indexCast v1933
  let c49 : Index := 49#32
  ![v1934.toNat, 49]
def k0_off51 (i : grid0.Coords) (c0_i32_974 : BitVec 32) : Fin 2 → Nat :=
  let arg1 : BitVec 32 := BitVec.ofNat 32 (i 1).val
  let c4_i32_973 : BitVec 32 := 4#32
  let v2003 : BitVec 32 := Scalar.muli arg1 c4_i32_973
  let v2004 : BitVec 32 := Scalar.addi v2003 c0_i32_974
  let v2005 : Index := Scalar.indexCast v2004
  let c50 : Index := 50#32
  ![v2005.toNat, 50]
def k0_off52 (i : grid0.Coords) (c0_i32_977 : BitVec 32) : Fin 2 → Nat :=
  let arg1 : BitVec 32 := BitVec.ofNat 32 (i 1).val
  let c4_i32_976 : BitVec 32 := 4#32
  let v2012 : BitVec 32 := Scalar.muli arg1 c4_i32_976
  let v2013 : BitVec 32 := Scalar.addi v2012 c0_i32_977
  let v2014 : Index := Scalar.indexCast v2013
  let c51 : Index := 51#32
  ![v2014.toNat, 51]
def k0_off53 (i : grid0.Coords) (c0_i32_1013 : BitVec 32) : Fin 2 → Nat :=
  let arg1 : BitVec 32 := BitVec.ofNat 32 (i 1).val
  let c4_i32_1012 : BitVec 32 := 4#32
  let v2083 : BitVec 32 := Scalar.muli arg1 c4_i32_1012
  let v2084 : BitVec 32 := Scalar.addi v2083 c0_i32_1013
  let v2085 : Index := Scalar.indexCast v2084
  let c52 : Index := 52#32
  ![v2085.toNat, 52]
def k0_off54 (i : grid0.Coords) (c0_i32_1016 : BitVec 32) : Fin 2 → Nat :=
  let arg1 : BitVec 32 := BitVec.ofNat 32 (i 1).val
  let c4_i32_1015 : BitVec 32 := 4#32
  let v2092 : BitVec 32 := Scalar.muli arg1 c4_i32_1015
  let v2093 : BitVec 32 := Scalar.addi v2092 c0_i32_1016
  let v2094 : Index := Scalar.indexCast v2093
  let c53 : Index := 53#32
  ![v2094.toNat, 53]
def k0_off55 (i : grid0.Coords) (c0_i32_1052 : BitVec 32) : Fin 2 → Nat :=
  let arg1 : BitVec 32 := BitVec.ofNat 32 (i 1).val
  let c4_i32_1051 : BitVec 32 := 4#32
  let v2163 : BitVec 32 := Scalar.muli arg1 c4_i32_1051
  let v2164 : BitVec 32 := Scalar.addi v2163 c0_i32_1052
  let v2165 : Index := Scalar.indexCast v2164
  let c54 : Index := 54#32
  ![v2165.toNat, 54]
def k0_off56 (i : grid0.Coords) (c0_i32_1055 : BitVec 32) : Fin 2 → Nat :=
  let arg1 : BitVec 32 := BitVec.ofNat 32 (i 1).val
  let c4_i32_1054 : BitVec 32 := 4#32
  let v2172 : BitVec 32 := Scalar.muli arg1 c4_i32_1054
  let v2173 : BitVec 32 := Scalar.addi v2172 c0_i32_1055
  let v2174 : Index := Scalar.indexCast v2173
  let c55 : Index := 55#32
  ![v2174.toNat, 55]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S64x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x56 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8x3072x7168 : Shape := ⟨3, ![8, 3072, 7168]⟩
abbrev S8192x7168 : Shape := ⟨2, ![8192, 7168]⟩
abbrev S64x56 : Shape := ⟨2, ![64, 56]⟩
abbrev S24576x56x128 : Shape := ⟨3, ![24576, 56, 128]⟩
abbrev S24576x8192 : Shape := ⟨2, ![24576, 8192]⟩
abbrev S24576x7168 : Shape := ⟨2, ![24576, 7168]⟩
abbrev S24576x56 : Shape := ⟨2, ![24576, 56]⟩
abbrev S24576x56x1 : Shape := ⟨3, ![24576, 56, 1]⟩
abbrev S64x128x56x128 : Shape := ⟨4, ![64, 128, 56, 128]⟩
abbrev S64x1x56x1 : Shape := ⟨4, ![64, 1, 56, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x3072x7168, .bf16⟩
  | .hbm, ⟨1, _⟩ => ⟨S8192x7168, .fp8e4m3⟩
  | .hbm, ⟨2, _⟩ => ⟨S64x56, .f32⟩
  | .hbm, ⟨3, _⟩ => ⟨S24576x56x128, .bf16⟩
  | .hbm, ⟨4, _⟩ => ⟨S24576x8192, .bf16⟩
  | .hbm, ⟨5, _⟩ => ⟨S24576x7168, .fp8e4m3⟩
  | .hbm, ⟨6, _⟩ => ⟨S24576x56, .f32⟩
  | .local _ .vmem, ⟨0, _⟩ => ⟨S24576x56x128, .bf16⟩
  | .local _ .vmem, ⟨1, _⟩ => ⟨S8192x7168, .fp8e4m3⟩
  | .local _ .vmem, ⟨2, _⟩ => ⟨S64x56, .f32⟩
  | .local _ .vmem, ⟨3, _⟩ => ⟨S24576x8192, .bf16⟩
  | .local _ .vmem, ⟨4, _⟩ => ⟨S24576x7168, .fp8e4m3⟩
  | .local _ .vmem, ⟨5, _⟩ => ⟨S24576x56, .f32⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x56x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.Runs.lean ====
module

public import proofs.«01_k».proof.Proof.Gen.Kernel.Launch
public import proofs.«01_k».proof.Proof.Gen.Kernel.Skeleton
public import proofs.«01_k».proof.Proof.Gen.Kernel.Frame
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 2 rfl).trans ((hA c 2).trans (V_main_arg1 m c)),
      (Pipeline.RDat.FramePost.arr_in h c 0 rfl).trans ((hA c 0).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 768 := Nat.lt_of_lt_of_eq t.isLt N_0
    have e0 : (grid0.coords t 0).val = t.val / 16 % 48 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S64x56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x7168 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x56 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KernelFrame.RunA.lean ====
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7552000 in
/-- The body's triple IN CASE A (`scf.if` 0 taken: points 0, 16, … 752: 48 of 768): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) (hc0 : cond0_0 i)
    (x0 : Vec F S64x56 .f32) (x1 : Vec F S512x7168 .bf16) (x2 : Vec F S512x7168 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_linear i arg2 harg2 arg3 harg3 arg4 harg4 arg5 harg5 arg6 harg6 arg7 harg7 arg8 harg8) K := by
    intro E K
    simp only [cc0_fp8_linear_eq_skeleton]; unfold cc0_fp8_linear_skel
    simp only [k0_part162_eq_skeleton, k0_part105_eq_skeleton, k0_part103_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part104_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Gen

end
-- ==== Proof.KernelFrame.RunB.lean ====
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5096000 in
/-- The body's triple IN CASE B (`scf.if` 0 not taken: points 1, 2, … 767: 720 of 768): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) (hc0 : ¬cond0_0 i)
    (x0 : Vec F S64x56 .f32) (x1 : Vec F S512x7168 .bf16) (x2 : Vec F S512x7168 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_fp8_linear i arg2 harg2 arg3 harg3 arg4 harg4 arg5 harg5 arg6 harg6 arg7 harg7 arg8 harg8) K := by
    intro E K
    simp only [cc0_fp8_linear_eq_skeleton]; unfold cc0_fp8_linear_skel
    simp only [k0_part162_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Gen

end
-- ==== Proof.KernelFrame.Frame.lean ====
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 768 := lt_of_lt_of_eq t.isLt (show cfg0.N = 768 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Ladder.lean ====
/-
  The scale of a group, as the kernel finds it and as the reference does, on one number over the extended reals. The kernel
  finds the exponent field of a 32-bit float from its highest bit down, by comparisons, and builds the power of two from it;
  the reference takes the floor of the logarithm to base two. On a nonnegative number below 2 ^ 120 the two agree.
-/
module

public import Idealize.ShloMosaic.Lib.Pointwise

@[expose] public section

noncomputable section

namespace Cert.Own

open Idealize.ShloMosaic

/-! ## The floats with a bare exponent -/

/-- The 32-bit float with exponent field `n` and fraction zero, as a number. -/
def bare (n : Nat) : EReal := Ideal.ofBits .f32 (BitVec.ofNat 32 (n * 8388608))

theorem bare_parts (n : Nat) (h : n < 256) :
    (BitVec.ofNat 32 (n * 8388608)).extractLsb' 31 1 = 0#1 ∧ ((BitVec.ofNat 32 (n * 8388608)).extractLsb' 23 8).toNat = n
      ∧ ((BitVec.ofNat 32 (n * 8388608)).extractLsb' 0 23).toNat = 0 := by
  revert n; decide +kernel

/-- Exponent field zero is the number zero. -/
theorem bare_zero : bare 0 = 0 := by
  obtain ⟨h1, h2, h3⟩ := bare_parts 0 (by decide)
  unfold bare Ideal.ofBits Ideal.ieee
  simp only [h2, h3]
  norm_num

/-- Exponent field 255 is infinity. -/
theorem bare_top : bare 255 = ⊤ := by
  obtain ⟨h1, h2, h3⟩ := bare_parts 255 (by decide)
  unfold bare Ideal.ofBits Ideal.ieee
  simp only [Nat.reduceAdd, h1, h2, h3]
  norm_num

/-- Every exponent field between is a power of two. -/
theorem bare_pow (n : Nat) (h0 : 1 ≤ n) (h : n ≤ 254) : bare n = (((2 : ℝ) ^ ((n : ℤ) - 127) : ℝ) : EReal) := by
  obtain ⟨h1, h2, h3⟩ := bare_parts n (by omega)
  unfold bare Ideal.ofBits Ideal.ieee
  simp only [Nat.reduceAdd, h1, h2, h3]
  rw [if_neg (by omega), if_neg (by omega)]
  congr 1
  norm_num
  rw [show (8388608 : ℝ) = (2 : ℝ) ^ (23 : ℤ) by norm_num, ← zpow_add₀ (by norm_num)]
  congr 1
  ring

/-! ## The ladder -/

/-- One rung on one number. -/
def rung1 (v : EReal) (c e : BitVec 32) : BitVec 32 := Scalar.select (Ideal.cmp .oge v (Ideal.ofBits .f32 (e + c))) (e + c) e

/-- The ladder on one number. -/
def ladder1 (v : EReal) : BitVec 32 :=
  rung1 v 8388608#32 (rung1 v 16777216#32 (rung1 v 33554432#32 (rung1 v 67108864#32 (rung1 v 134217728#32
    (rung1 v 268435456#32 (rung1 v 536870912#32 (rung1 v 1073741824#32 0#32)))))))

/-- `E` is the highest exponent field whose float is at most `v`. -/
def Reaches (v : EReal) (E : Nat) : Prop := E ≤ 255 ∧ ∀ n, n ≤ 255 → (bare n ≤ v ↔ n ≤ E)

/-- A rung halves the interval the field lies in. -/
theorem rung1_spec (v : EReal) (E : Nat) (hE : Reaches v E) (k e : Nat) (h1 : e ≤ E) (h2 : E < e + 2 * k) (h3 : e + 2 * k ≤ 256) (hk : 1 ≤ k) :
    ∃ e', rung1 v (BitVec.ofNat 32 (k * 8388608)) (BitVec.ofNat 32 (e * 8388608)) = BitVec.ofNat 32 (e' * 8388608) ∧ e' ≤ E ∧ E < e' + k ∧ e' + k ≤ 256 := by
  have hs : BitVec.ofNat 32 (e * 8388608) + BitVec.ofNat 32 (k * 8388608) = BitVec.ofNat 32 ((e + k) * 8388608) := by
    rw [← BitVec.ofNat_add, Nat.add_mul]
  have ht := hE.2 (e + k) (by omega)
  unfold rung1
  rw [hs]
  by_cases hc : e + k ≤ E
  · refine ⟨e + k, ?_, hc, by omega, by omega⟩
    have : bare (e + k) ≤ v := ht.2 hc
    unfold bare at this
    simp [Scalar.select, Ideal.cmp, this]
  · refine ⟨e, ?_, h1, by omega, by omega⟩
    have : ¬ bare (e + k) ≤ v := fun h => hc (ht.1 h)
    unfold bare at this
    simp [Scalar.select, Ideal.cmp, this]

/-- The ladder finds the field. -/
theorem ladder1_eq (v : EReal) (E : Nat) (hE : Reaches v E) : ladder1 v = BitVec.ofNat 32 (E * 8388608) := by
  have hE1 := hE.1
  obtain ⟨e1, q1, a1, b1, c1⟩ := rung1_spec v E hE 128 0 (by omega) (by omega) (by omega) (by omega)
  obtain ⟨e2, q2, a2, b2, c2⟩ := rung1_spec v E hE 64 e1 a1 b1 c1 (by omega)
  obtain ⟨e3, q3, a3, b3, c3⟩ := rung1_spec v E hE 32 e2 a2 b2 c2 (by omega)
  obtain ⟨e4, q4, a4, b4, c4⟩ := rung1_spec v E hE 16 e3 a3 b3 c3 (by omega)
  obtain ⟨e5, q5, a5, b5, c5⟩ := rung1_spec v E hE 8 e4 a4 b4 c4 (by omega)
  obtain ⟨e6, q6, a6, b6, c6⟩ := rung1_spec v E hE 4 e5 a5 b5 c5 (by omega)
  obtain ⟨e7, q7, a7, b7, c7⟩ := rung1_spec v E hE 2 e6 a6 b6 c6 (by omega)
  obtain ⟨e8, q8, a8, b8, c8⟩ := rung1_spec v E hE 1 e7 a7 b7 c7 (by omega)
  have : e8 = E := by omega
  subst this
  unfold ladder1
  simp only [Nat.reduceMul] at q1 q2 q3 q4 q5 q6 q7 q8
  rw [q1, q2, q3, q4, q5, q6, q7, q8]

/-- The field on one number, with zero and the infinite exponent sent to the exponent of one half. -/
def field1 (e : BitVec 32) : BitVec 32 :=
  Scalar.select (IntOp.ori (IntOp.cmpi .eq e 0#32) (IntOp.cmpi .eq e 2139095040#32)) 1056964608#32 e

/-- The scale the kernel gives a group whose scaled largest magnitude is `v`. -/
def kScale (v : EReal) : EReal := Ideal.ofBits .f32 (field1 (ladder1 v) + 8388608#32)

/-- The inverse scale the kernel gives it. -/
def kInv (v : EReal) : EReal := Ideal.ofBits .f32 (2122317824#32 - field1 (ladder1 v))

/-- The exponent the reference gives it. -/
def rExp (v : EReal) : EReal :=
  Scalar.select (Ideal.cmp .olt v (Ideal.ofBits .f32 0x00800000#32)) 0
    (Ideal.liftRound Int.floor (Ideal.div (Ideal.log v) (Ideal.log (Ideal.ofBits .f32 0x40000000#32))) + 1)

/-- What the field is for each exponent the ladder can find. -/
theorem field1_eq (E : Nat) (h : E ≤ 254) : field1 (BitVec.ofNat 32 (E * 8388608)) = BitVec.ofNat 32 ((if E = 0 then 126 else E) * 8388608) := by
  revert E; decide +kernel

theorem kScale_eq (v : EReal) (E : Nat) (hE : Reaches v E) (h : E ≤ 253) : kScale v = bare ((if E = 0 then 126 else E) + 1) := by
  unfold kScale bare
  rw [ladder1_eq v E hE, field1_eq E (by omega), show (8388608#32 : BitVec 32) = BitVec.ofNat 32 8388608 from rfl, ← BitVec.ofNat_add, Nat.add_mul, Nat.one_mul]

theorem inv_field (E : Nat) (h : E ≤ 252) : 2122317824#32 - BitVec.ofNat 32 ((if E = 0 then 126 else E) * 8388608)
    = BitVec.ofNat 32 ((253 - (if E = 0 then 126 else E)) * 8388608) := by
  revert E; decide +kernel

theorem kInv_eq (v : EReal) (E : Nat) (hE : Reaches v E) (h : E ≤ 252) : kInv v = bare (253 - (if E = 0 then 126 else E)) := by
  unfold kInv bare
  rw [ladder1_eq v E hE, field1_eq E (by omega), inv_field E h]

theorem reaches_small (r : ℝ) (h0 : 0 ≤ r) (h : r < (2 : ℝ) ^ (-126 : ℤ)) : Reaches (r : EReal) 0 := by
  refine ⟨by decide, fun n hn => ?_⟩
  rcases Nat.eq_zero_or_pos n with rfl | hp
  · simp [bare_zero, h0]
  · rcases Nat.lt_or_ge n 255 with hlt | hge
    · rw [bare_pow n hp (by omega), EReal.coe_le_coe_iff]
      refine ⟨fun hl => absurd (lt_of_le_of_lt hl h) (not_lt.2 (zpow_le_zpow_right₀ (by norm_num) (by omega))), fun hl => by omega⟩
    · obtain rfl : n = 255 := by omega
      rw [bare_top]
      simp

/-- Every positive real lies between a power of two and the next. -/
theorem exists_log (r : ℝ) (h0 : 0 < r) : ∃ L : ℤ, (2 : ℝ) ^ L ≤ r ∧ r < (2 : ℝ) ^ (L + 1) :=
  exists_mem_Ico_zpow h0 (by norm_num)

theorem pow_le_iff (r : ℝ) (L : ℤ) (h : (2 : ℝ) ^ L ≤ r) (h' : r < (2 : ℝ) ^ (L + 1)) (k : ℤ) : (2 : ℝ) ^ k ≤ r ↔ k ≤ L := by
  constructor
  · intro hk
    have := (zpow_lt_zpow_iff_right₀ (by norm_num : (1 : ℝ) < 2)).1 (lt_of_le_of_lt hk h')
    omega
  · intro hk
    exact le_trans (zpow_le_zpow_right₀ (by norm_num) hk) h

/-- The floor of the logarithm to base two. -/
theorem floor_log (r : ℝ) (h0 : 0 < r) (L : ℤ) (h : (2 : ℝ) ^ L ≤ r) (h' : r < (2 : ℝ) ^ (L + 1)) : ⌊Real.log r * (Real.log 2)⁻¹⌋ = L := by
  have hp : 0 < Real.log 2 := Real.log_pos (by norm_num)
  have hl := Real.log_le_log (by positivity) h
  have hu := Real.log_lt_log h0 h'
  rw [Real.log_zpow] at hl hu
  rw [← div_eq_mul_inv, Int.floor_eq_iff, le_div_iff₀ hp, div_lt_iff₀ hp]
  push_cast at hu
  exact ⟨hl, hu⟩

theorem reaches_log (r : ℝ) (L : ℤ) (h : (2 : ℝ) ^ L ≤ r) (h' : r < (2 : ℝ) ^ (L + 1)) (h0 : 0 < r)
    (hb : (2 : ℝ) ^ (-126 : ℤ) ≤ r) (h1 : r < (2 : ℝ) ^ (120 : ℤ)) :
    ∃ E : Nat, Reaches (r : EReal) E ∧ (E : ℤ) = L + 127 ∧ 1 ≤ E ∧ E ≤ 247 := by
  have hl : (-126 : ℤ) ≤ L := (pow_le_iff r L h h' _).1 hb
  have hu : L < 120 := by
    by_contra hc
    exact absurd ((pow_le_iff r L h h' 120).2 (by omega)) (not_le.2 h1)
  obtain ⟨E, hE⟩ : ∃ E : Nat, (E : ℤ) = L + 127 := ⟨(L + 127).toNat, by omega⟩
  refine ⟨E, ⟨by omega, fun n hn => ?_⟩, hE, by omega, by omega⟩
  rcases Nat.eq_zero_or_pos n with rfl | hp
  · simp [bare_zero, h0.le]
  · rcases Nat.lt_or_ge n 255 with hlt | hge
    · rw [bare_pow n hp (by omega), EReal.coe_le_coe_iff, pow_le_iff r L h h']
      omega
    · obtain rfl : n = 255 := by omega
      rw [bare_top]
      simp
      omega

theorem least_normal : Ideal.ofBits .f32 0x00800000#32 = (((2 : ℝ) ^ (-126 : ℤ) : ℝ) : EReal) := by
  have h := bare_pow 1 (by decide) (by decide)
  rw [show ((1 : ℕ) : ℤ) - 127 = -126 by norm_num] at h
  exact h

theorem log_two : Ideal.log (Ideal.ofBits .f32 0x40000000#32) = ((Real.log 2 : ℝ) : EReal) := by
  rw [show Ideal.ofBits .f32 0x40000000#32 = bare 128 from rfl, bare_pow 128 (by decide) (by decide)]
  rw [show ((128 : ℕ) : ℤ) - 127 = 1 by norm_num, zpow_one]
  show (if (2 : ℝ) ≤ 0 then (⊥ : EReal) else (Real.log 2 : EReal)) = _
  rw [if_neg (by norm_num)]

theorem exp2_int (k : ℤ) : Ideal.exp2 (((k : ℝ) : ℝ) : EReal) = (((2 : ℝ) ^ k : ℝ) : EReal) := by
  show (((Real.rpow 2 (k : ℝ) : ℝ)) : EReal) = _
  rw [show Real.rpow 2 (k : ℝ) = (2 : ℝ) ^ (k : ℝ) from rfl, Real.rpow_intCast]

/-- The reference's exponent below the least normal number. -/
theorem rExp_small (r : ℝ) (h : r < (2 : ℝ) ^ (-126 : ℤ)) : rExp (r : EReal) = (((0 : ℤ) : ℝ) : EReal) := by
  have : (r : EReal) < (((2 : ℝ) ^ (-126 : ℤ) : ℝ) : EReal) := EReal.coe_lt_coe_iff.2 h
  unfold rExp
  rw [least_normal]
  simp only [Scalar.select, Ideal.cmp, this]
  simp

/-- The reference's exponent from the least normal number on. -/
theorem rExp_log (r : ℝ) (h0 : 0 < r) (L : ℤ) (h : (2 : ℝ) ^ L ≤ r) (h' : r < (2 : ℝ) ^ (L + 1)) (hb : (2 : ℝ) ^ (-126 : ℤ) ≤ r) :
    rExp (r : EReal) = (((L + 1 : ℤ) : ℝ) : EReal) := by
  have hn : ¬ (r : EReal) < (((2 : ℝ) ^ (-126 : ℤ) : ℝ) : EReal) := not_lt.2 (EReal.coe_le_coe_iff.2 hb)
  have hl : Ideal.log (r : EReal) = ((Real.log r : ℝ) : EReal) := by
    show (if r ≤ 0 then (⊥ : EReal) else (Real.log r : EReal)) = _
    rw [if_neg (not_le.2 h0)]
  have hlog : Real.log 2 ≠ 0 := (Real.log_pos (by norm_num)).ne'
  have hd : Ideal.div ((Real.log r : ℝ) : EReal) ((Real.log 2 : ℝ) : EReal) = ((Real.log r * (Real.log 2)⁻¹ : ℝ) : EReal) := by
    unfold Ideal.div
    rw [if_neg (by exact_mod_cast hlog), ← EReal.coe_inv, ← EReal.coe_mul]
  unfold rExp
  rw [least_normal, log_two, hl, hd]
  simp only [Scalar.select, Ideal.cmp, hn]
  rw [show Ideal.liftRound Int.floor ((Real.log r * (Real.log 2)⁻¹ : ℝ) : EReal) = ((⌊Real.log r * (Real.log 2)⁻¹⌋ : ℝ) : EReal) from rfl, floor_log r h0 L h h']
  simp

/-- The kernel's scale and inverse scale are the reference's, on a nonnegative number below `2 ^ 120`. -/
theorem scale_eq (v : EReal) (h0 : 0 ≤ v) (h1 : v < (((2 : ℝ) ^ (120 : ℤ) : ℝ) : EReal)) :
    kScale v = Ideal.exp2 (rExp v) ∧ kInv v = Ideal.exp2 (0 - rExp v) := by
  induction v with
  | bot => simp at h0
  | top => simp at h1
  | coe r =>
    have h0' : 0 ≤ r := by exact_mod_cast h0
    have h1' : r < (2 : ℝ) ^ (120 : ℤ) := EReal.coe_lt_coe_iff.1 h1
    have hneg : ∀ k : ℤ, (0 : EReal) - ((k : ℝ) : EReal) = (((-k : ℤ) : ℝ) : EReal) := fun k => by
      rw [Int.cast_neg, EReal.coe_neg, zero_sub]
    rcases lt_or_ge r ((2 : ℝ) ^ (-126 : ℤ)) with hs | hb
    · have hE := reaches_small r h0' hs
      have h127 : bare 127 = (((2 : ℝ) ^ (0 : ℤ) : ℝ) : EReal) := by
        rw [bare_pow 127 (by decide) (by decide), show ((127 : ℕ) : ℤ) - 127 = 0 by norm_num]
      rw [kScale_eq _ 0 hE (by decide), kInv_eq _ 0 hE (by decide), rExp_small r hs, hneg, exp2_int, exp2_int]
      exact ⟨h127, h127⟩
    · have hp : 0 < r := lt_of_lt_of_le (by positivity) hb
      obtain ⟨L, hL, hL'⟩ := exists_log r hp
      obtain ⟨E, hE, hEL, he1, he2⟩ := reaches_log r L hL hL' hp hb h1'
      rw [kScale_eq _ E hE (by omega), kInv_eq _ E hE (by omega), rExp_log r hp L hL hL' hb, hneg, exp2_int, exp2_int,
        if_neg (by omega), bare_pow (E + 1) (by omega) (by omega), bare_pow (253 - E) (by omega) (by omega),
        show ((E + 1 : ℕ) : ℤ) - 127 = L + 1 by omega, show ((253 - E : ℕ) : ℤ) - 127 = -(L + 1) by omega]
      exact ⟨rfl, rfl⟩

end Cert.Own

end
-- ==== Proof.Points.lean ====
/-
  The points of the grid: where the first loop runs, which block each window is on, and the blocks the body reads as
  parts of the arrays.
-/
module

public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.FrameBody
public import Idealize.ShloMosaic.Lib.Pipeline.ValueKit
public import Idealize.ShloMosaic.Lib.Pointwise
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ)

theorem point_lt (t : Fin cfg0.N) : t.val < 768 := Nat.lt_of_lt_of_eq t.isLt N_0

theorem coord0 (t : Fin cfg0.N) : (grid0.coords t 0).val = t.val / 16 :=
  (Pipeline.Grid.coords_val t 0 (by decide) rfl : (grid0.coords t 0).val = t.val / 16 % 48).trans
    (Nat.mod_eq_of_lt (by have := point_lt t; omega))

theorem coord1 (t : Fin cfg0.N) : (grid0.coords t 1).val = t.val % 16 :=
  (Pipeline.Grid.coords_val t 1 (by decide) rfl : (grid0.coords t 1).val = t.val / 1 % 16).trans (by rw [Nat.div_one])

/-- The first loop runs at the points whose second coordinate is zero. -/
theorem runs_iff (t : Fin cfg0.N) : k0_cond1 (grid0.coords t) = 1#1 ↔ t.val % 16 = 0 := by
  have ht := point_lt t
  simp only [k0_cond1, coord0, coord1]
  word_cmp

theorem index0 (t : Fin cfg0.N) : win0_0.index t = ![0, 0] := rfl

theorem index1 (t : Fin cfg0.N) : win0_1.index t = ![t.val / 16, 0] := by
  have ht := point_lt t
  show cc0_transform_1 (grid0.coords t) = _
  unfold cc0_transform_1
  simp only [coord0, BitVec.toNat_ofNat]
  rw [Nat.mod_eq_of_lt (by omega)]

theorem index2 (t : Fin cfg0.N) : win0_2.index t = ![t.val % 16, 0] := by
  have ht := point_lt t
  show cc0_transform_2 (grid0.coords t) = _
  unfold cc0_transform_2
  simp only [coord1, BitVec.toNat_ofNat]
  rw [Nat.mod_eq_of_lt (by omega)]

theorem index3 (t : Fin cfg0.N) : win0_3.index t = ![t.val / 16, t.val % 16] := by
  have ht := point_lt t
  show cc0_transform_3 (grid0.coords t) = _
  unfold cc0_transform_3
  simp only [coord0, coord1, BitVec.toNat_ofNat]
  rw [Nat.mod_eq_of_lt (by omega), Nat.mod_eq_of_lt (by omega)]

theorem index4 (t : Fin cfg0.N) : win0_4.index t = ![t.val / 16, 0] := by
  have ht := point_lt t
  show cc0_transform_4 (grid0.coords t) = _
  unfold cc0_transform_4
  simp only [coord0, BitVec.toNat_ofNat]
  rw [Nat.mod_eq_of_lt (by omega)]

theorem index5 (t : Fin cfg0.N) : win0_5.index t = ![t.val / 16, 0] := by
  have ht := point_lt t
  show cc0_transform_5 (grid0.coords t) = _
  unfold cc0_transform_5
  simp only [coord0, BitVec.toNat_ofNat]
  rw [Nat.mod_eq_of_lt (by omega)]

theorem row_lt (t : Fin cfg0.N) (y : S512x7168.Idx) : 512 * (t.val / 16) + (y 0).val < 24576 := by
  have ht := point_lt t
  have h : (y 0).val < 512 := (y 0).isLt
  omega

theorem wrow_lt (t : Fin cfg0.N) (y : S512x7168.Idx) : 512 * (t.val % 16) + (y 0).val < 8192 := by
  have h : (y 0).val < 512 := (y 0).isLt
  omega

/-- An index of a table is named by its two coordinates. -/
theorem ix2_of_vals {n0 n1 : Nat} (f : (⟨2, ![n0, n1]⟩ : Shape).Idx) (a : Fin n0) (b : Fin n1)
    (h0 : (f 0).val = a.val) (h1 : (f 1).val = b.val) : f = ix2 a b :=
  (eq_ix2 f).trans ((ix2_inj _ _ _ _).mpr ⟨Fin.ext h0, Fin.ext h1⟩)

theorem mul_add_comm' (a b k : Nat) : a * k + b = k * a + b := by rw [Nat.mul_comm]

theorem place0 (t : Fin cfg0.N) (y : S64x56.Idx) :
    (win0_0.blk t).view.emb y = ix2 (y 0) (y 1) := by
  have e0 := win0_0.rect_emb_val t y 0
  have e1 := win0_0.rect_emb_val t y 1
  rw [index0] at e0 e1
  refine ix2_of_vals _ _ _ (e0.trans ?_) (e1.trans ?_)
  · exact (congrArg (· + (y 0).val) (Nat.zero_mul _)).trans (Nat.zero_add _)
  · exact (congrArg (· + (y 1).val) (Nat.zero_mul _)).trans (Nat.zero_add _)

theorem place1 (t : Fin cfg0.N) (y : S512x7168.Idx) :
    (win0_1.blk t).view.emb y = ix2 ⟨512 * (t.val / 16) + (y 0).val, row_lt t y⟩ (y 1) := by
  have e0 := win0_1.rect_emb_val t y 0
  have e1 := win0_1.rect_emb_val t y 1
  rw [index1] at e0 e1
  refine ix2_of_vals _ _ _ (e0.trans ?_) (e1.trans ?_)
  · exact mul_add_comm' (t.val / 16) (y 0).val 512
  · exact (congrArg (· + (y 1).val) (Nat.zero_mul _)).trans (Nat.zero_add _)

theorem place2 (t : Fin cfg0.N) (y : S512x7168.Idx) :
    (win0_2.blk t).view.emb y = ix2 ⟨512 * (t.val % 16) + (y 0).val, wrow_lt t y⟩ (y 1) := by
  have e0 := win0_2.rect_emb_val t y 0
  have e1 := win0_2.rect_emb_val t y 1
  rw [index2] at e0 e1
  refine ix2_of_vals _ _ _ (e0.trans ?_) (e1.trans ?_)
  · exact mul_add_comm' (t.val % 16) (y 0).val 512
  · exact (congrArg (· + (y 1).val) (Nat.zero_mul _)).trans (Nat.zero_add _)

/-- The scales of the weights are read whole at every point. -/
theorem iblk_ws (c : Dev nD) (t : Fin cfg0.N) : iblk m c 0 t = V m c main_arg2 := by
  funext y
  unfold iblk
  blk_simp
  generalize V m c main_arg2 = f
  exact congrArg f ((place0 t y).trans (ix2_eta y))

/-- The activations are read in blocks of 512 rows, by the first coordinate. -/
theorem iblk_x (c : Dev nD) (t : Fin cfg0.N) :
    iblk m c 1 t = fun y : S512x7168.Idx => V m c main_v0 (ix2 ⟨512 * (t.val / 16) + (y 0).val, row_lt t y⟩ (y 1)) := by
  funext y
  unfold iblk
  blk_simp
  generalize V m c main_v0 = f
  exact congrArg f (place1 t y)

/-- The weights are read in blocks of 512 rows, by the second coordinate. -/
theorem iblk_w (c : Dev nD) (t : Fin cfg0.N) :
    iblk m c 2 t = fun y : S512x7168.Idx => V m c main_arg1 (ix2 ⟨512 * (t.val % 16) + (y 0).val, wrow_lt t y⟩ (y 1)) := by
  funext y
  unfold iblk
  blk_simp
  generalize V m c main_arg1 = f
  exact congrArg f (place2 t y)

end Cert.KernelIdeal.Own

end
-- ==== Proof.Loops.lean ====
/-
  The kernel's body as two loops. The printed body is a straight line: fifty-six groups of columns quantised one after
  the other, then twenty-eight products of 256 columns added up. Here one group and one product are each stated once,
  at a column offset that is a variable, with the two loops over them; `body_eq` says the printed body is this program.
-/
module

public import proofs.«01_k».proof.Proof.Gen.KernelIdeal

@[expose] public section

noncomputable section

namespace Cert.KernelIdeal.Own

open Idealize.ShloMosaic Idealize.SL.Sem
open Cert.KernelIdeal.Gen

variable {F : FTy → Type} [FloatOps F]

/-- One rung of the exponent's ladder: `2 ^ b` exponents higher where the value reaches that far. -/
def rung (v : FVec F S512x1 .f32) (c : BitVec 32) (e : IVec S512x1 32) : IVec S512x1 32 :=
  select (cmpf .oge v (bitcastToFloat .f32 (addi e (broadcast S512x1 c)))) (addi e (broadcast S512x1 c)) e

/-- The exponent field of each row's value, found from its highest bit down. -/
def ladder (v : FVec F S512x1 .f32) : IVec S512x1 32 :=
  rung v 8388608#32 (rung v 16777216#32 (rung v 33554432#32 (rung v 67108864#32 (rung v 134217728#32
    (rung v 268435456#32 (rung v 536870912#32 (rung v 1073741824#32 (broadcast S512x1 0#32))))))))

/-- The field with zero and the infinite exponent sent to the exponent of one half. -/
def field (e : IVec S512x1 32) : IVec S512x1 32 :=
  select (ori (cmpi .eq e (broadcast S512x1 0#32)) (cmpi .eq e (broadcast S512x1 2139095040#32)))
    (broadcast S512x1 1056964608#32) e

/-- Each row's largest magnitude in the group, times the constant nearest 1/448. -/
def rowMax (x : FVec F S512x128 .bf16) : FVec F S512x1 .f32 :=
  mulf (shapeCast S512x1 (multiReduction .maximumf [1] S512
      (absf (extf .f32 (shapeCast S512x128 x shapeCasts_S512x128_S512x128) bitsLt_bf16_f32)) 0xFF800000#32
      reduces_S512x128_S512 (.inl rfl) rfl) shapeCasts_S512_S512x1)
    (broadcast S512x1 (Scalar.ofBits .f32 0x3B124925#32))

/-- The scale of each row of a group. -/
def groupScale (x : FVec F S512x128 .bf16) : FVec F S512x1 .f32 :=
  bitcastToFloat .f32 (addi (field (ladder (rowMax x))) (broadcast S512x1 8388608#32))

/-- The inverse scale of each row of a group. -/
def groupInv (x : FVec F S512x128 .bf16) : FVec F S512x1 .f32 :=
  bitcastToFloat .f32 (subi (broadcast S512x1 2122317824#32) (field (ladder (rowMax x))))

/-- The codes of a group. -/
def groupCodes (x : FVec F S512x128 .bf16) : FVec F S512x128 .fp8e4m3 :=
  truncf .fp8e4m3 (minimumf (broadcast S512x128 (Scalar.ofBits .f32 0x43E00000#32))
    (maximumf (broadcast S512x128 (Scalar.ofBits .f32 0xC3E00000#32))
      (mulf (extf .f32 (shapeCast S512x128 x shapeCasts_S512x128_S512x128) bitsLt_bf16_f32)
        (broadcastTo S512x128 (groupInv x) broadcasts_S512x1_S512x128)))) bitsLt_fp8e4m3_f32

/-- The group as the products read it: its codes times its scales. -/
def groupX (x : FVec F S512x128 .bf16) : FVec F S512x128 .bf16 :=
  shapeCast S512x128 (mulf (extf .bf16 (groupCodes x) bitsLt_fp8e4m3_bf16)
    (broadcastTo S512x128 (truncf .bf16 (groupScale x) bitsLt_bf16_f32) broadcasts_S512x1_S512x128))
    shapeCasts_S512x128_S512x128

/-- The table of scales with one group's column filled in. -/
def putScale (g : BitVec 32) (s : FVec F S512x1 .f32) (t : FVec F S512x56 .f32) : FVec F S512x56 .f32 :=
  select (cmpi .eq (iota .tc S512x56 32 [1] iota_S512x56_d1_w32) (broadcast S512x56 g))
    (broadcastTo S512x56 (shapeCast S512x1 s shapeCasts_S512x1_S512x1) broadcasts_S512x1_S512x56) t

theorem group_inb {g : Nat} (h : g < 56) : ∀ a, (![0, 128 * g] : Fin 2 → Nat) a + S512x128.size a ≤ S512x7168.size a := by
  intro a; fin_cases a
  · exact Nat.le_refl 512
  · show 128 * g + 128 ≤ 7168; omega

theorem chunk_inb {p : Nat} (h : p < 28) : ∀ a, (![0, 256 * p] : Fin 2 → Nat) a + S512x256.size a ≤ S512x7168.size a := by
  intro a; fin_cases a
  · exact Nat.le_refl 512
  · show 256 * p + 256 ≤ 7168; omega

theorem tile_inb {b g : Nat} (hb : b < 4) (h : g < 56) :
    ∀ a, (![128 * b, 128 * g] : Fin 2 → Nat) a + S128x128.size a ≤ S512x7168.size a := by
  intro a; fin_cases a
  · show 128 * b + 128 ≤ 512; omega
  · show 128 * g + 128 ≤ 7168; omega

/-- The group's columns of a 512 × 7168 block. -/
abbrev groupRect (g : Nat) (h : g < 56) : Rect S512x7168 := Rect.unit (s := S512x7168) ![0, 128 * g] S512x128.size (group_inb h)

/-- The product's columns of a 512 × 7168 block. -/
abbrev chunkRect (p : Nat) (h : p < 28) : Rect S512x7168 := Rect.unit (s := S512x7168) ![0, 256 * p] S512x256.size (chunk_inb h)

/-- A 128 × 128 tile of the weight block. -/
abbrev tileRect (b g : Nat) (hb : b < 4) (h : g < 56) : Rect S512x7168 :=
  Rect.unit (s := S512x7168) ![128 * b, 128 * g] S128x128.size (tile_inb hb h)

theorem group_packed8 (g : Nat) (h : g < 56) : (groupRect g h).PackedRows (EltTy.packing .fp8e4m3) :=
  Or.inr ⟨Nat.le_refl 2, rfl, Or.inl ⟨Nat.dvd_zero _, (by decide : _ ∣ 512)⟩⟩

theorem group_packed16 (g : Nat) (h : g < 56) : (groupRect g h).PackedRows (EltTy.packing .bf16) :=
  Or.inr ⟨Nat.le_refl 2, rfl, Or.inl ⟨Nat.dvd_zero _, (by decide : _ ∣ 512)⟩⟩

/-- Where the scale of a tile stands in the table of weight scales. -/
def wsOff (i : grid0.Coords) (b : BitVec 32) (g : Nat) : Fin 2 → Nat :=
  ![(Scalar.indexCast (Scalar.addi (Scalar.muli (BitVec.ofNat 32 (i 1).val) 4#32) b)).toNat, g]

theorem wsOff_eq (i : grid0.Coords) (b : Fin 4) (g : Nat) : wsOff i (BitVec.ofNat 32 b.val) g = ![4 * (i 1).val + b.val, g] := by
  have h := congrFun (k0_off1_eq i b) 0
  have h' : (Scalar.indexCast (Scalar.addi (Scalar.muli (BitVec.ofNat 32 (i 1).val) 4#32) (BitVec.ofNat 32 b.val))).toNat
      = 4 * (i 1).val + b.val := h
  unfold wsOff; rw [h']

theorem ws_inb (i : grid0.Coords) (b : Fin 4) {g : Nat} (h : g < 56) :
    ∀ a, wsOff i (BitVec.ofNat 32 b.val) g a + S1x1.size a ≤ S64x56.size a := by
  rw [wsOff_eq]
  have hi : (i 1).val < 16 := (i 1).isLt
  have hb := b.isLt
  intro a; fin_cases a
  · show 4 * (i 1).val + b.val + 1 ≤ 64; omega
  · show g + 1 ≤ 56; omega

/-- One group: read it, store its codes and the operand the products read, and fill in its scale. -/
def group (g : Nat) (h : g < 56) (arg3 : Memref sig .tc .vmem S512x7168 .bf16)
    (arg6 : Memref sig .tc .vmem S512x7168 .fp8e4m3) (harg6 : arg6.IsWhole) (arg8 : Memref sig .tc .vmem S512x7168 .bf16) (harg8 : arg8.IsWhole)
    (t : FVec F S512x56 .f32) : Prog (TpuEff nD τ sig (Elt F) Λ₀ .tc) (FVec F S512x56 .f32) := do
  let x : Vec F S512x128 .bf16 ← Prog.lift (.load arg3 (groupRect g h).toLoadRect (View.loadsAt_vmem h_S512x128))
  let _c : Vec F S512x128 .fp8e4m3 ← Prog.lift (.load arg6 (groupRect g h).toLoadRect (View.loadsAt_vmem h_S512x128))
  Prog.lift (.store arg6 (groupRect g h) (groupCodes x) Finset.univ (View.stores_vmem h_S512x128 (harg6.storeExact_slice rfl _ (group_packed8 g h)) (fun _ => rfl)) (.inl rfl))
  let _q : Vec F S512x128 .bf16 ← Prog.lift (.load arg8 (groupRect g h).toLoadRect (View.loadsAt_vmem h_S512x128))
  Prog.lift (.store arg8 (groupRect g h) (groupX x) Finset.univ (View.stores_vmem h_S512x128 (harg8.storeExact_slice rfl _ (group_packed16 g h)) (fun _ => rfl)) (.inl rfl))
  pure (putScale (BitVec.ofNat 32 g) (groupScale x) t)

/-- The last `n` groups, from the table of scales filled in so far. -/
def groups (arg3 : Memref sig .tc .vmem S512x7168 .bf16)
    (arg6 : Memref sig .tc .vmem S512x7168 .fp8e4m3) (harg6 : arg6.IsWhole) (arg8 : Memref sig .tc .vmem S512x7168 .bf16) (harg8 : arg8.IsWhole) :
    (n : Nat) → n ≤ 56 → FVec F S512x56 .f32 → Prog (TpuEff nD τ sig (Elt F) Λ₀ .tc) (FVec F S512x56 .f32)
  | 0, _, t => pure t
  | n + 1, h, t => group (55 - n) (by omega) arg3 arg6 harg6 arg8 harg8 t >>= groups arg3 arg6 harg6 arg8 harg8 n (Nat.le_of_succ_le h)

/-- The quantising half of the body: every group, then the table of scales. -/
def quantise (arg3 : Memref sig .tc .vmem S512x7168 .bf16)
    (arg6 : Memref sig .tc .vmem S512x7168 .fp8e4m3) (harg6 : arg6.IsWhole) (arg7 : Memref sig .tc .vmem S512x56 .f32) (arg8 : Memref sig .tc .vmem S512x7168 .bf16) (harg8 : arg8.IsWhole) :
    Prog (TpuEff nD τ sig (Elt F) Λ₀ .tc) PUnit := do
  let t ← groups arg3 arg6 harg6 arg8 harg8 56 (Nat.le_refl 56) (broadcast S512x56 (Scalar.ofBits .f32 0x00000000#32))
  let _s : Vec F S512x56 .f32 ← Prog.lift (.load arg7 (Rect.unit (s := S512x56) ![0, 0] S512x56.size inb_S512x56_S512x56_0_0).toLoadRect (View.loadsAt_vmem h_S512x56))
  Prog.lift (.store arg7 (Rect.unit (s := S512x56) ![0, 0] S512x56.size inb_S512x56_S512x56_0_0) t Finset.univ (View.stores_vmem_bits_univ h_S512x56 rfl) (.inl rfl))
  pure ⟨⟩

/-- A tile of weights at its scale. -/
def scaled (w : FVec F S128x128 .fp8e4m3) (s : Elt F .f32) : FVec F S128x128 .bf16 :=
  mulf (extf .bf16 w bitsLt_fp8e4m3_bf16) (truncf .bf16 (broadcast S128x128 s : FVec F S128x128 .f32) bitsLt_bf16_f32)

/-- A tile and its scale, read. -/
def tile (i : grid0.Coords) (arg2 : Memref sig .tc .smem S64x56 .f32) (arg4 : Memref sig .tc .vmem S512x7168 .fp8e4m3)
    (b : Fin 4) (g : Nat) (h : g < 56) : Prog (TpuEff nD τ sig (Elt F) Λ₀ .tc) (FVec F S128x128 .bf16) := do
  let w : Vec F S128x128 .fp8e4m3 ← Prog.lift (.load arg4 (tileRect b.val g b.isLt h).toLoadRect (View.loadsAt_vmem h_S128x128))
  let s : Elt F .f32 ← smemLoad arg2 (Rect.unit (s := S64x56) (wsOff i (BitVec.ofNat 32 b.val) g) S1x1.size (ws_inb i b h)) numel1_S1x1 rfl
  pure (scaled w s)

/-- Two tiles side by side. -/
def pair (i : grid0.Coords) (arg2 : Memref sig .tc .smem S64x56 .f32) (arg4 : Memref sig .tc .vmem S512x7168 .fp8e4m3)
    (b : Fin 4) (p : Nat) (h : p < 28) : Prog (TpuEff nD τ sig (Elt F) Λ₀ .tc) (FVec F S128x256 .bf16) := do
  let l ← tile i arg2 arg4 b (2 * p) (by omega)
  let r ← tile i arg2 arg4 b (2 * p + 1) (by omega)
  pure (concatenate S128x256 1 [⟨S128x128, l⟩, ⟨S128x128, r⟩] concatenates_S128x128_S128x128_S128x256_d1)

/-- One product: 256 columns of the stored operand by the same columns of the scaled weights. -/
def chunk (i : grid0.Coords) (arg2 : Memref sig .tc .smem S64x56 .f32) (arg4 : Memref sig .tc .vmem S512x7168 .fp8e4m3)
    (arg8 : Memref sig .tc .vmem S512x7168 .bf16) (p : Nat) (h : p < 28) : Prog (TpuEff nD τ sig (Elt F) Λ₀ .tc) (FVec F S512x512 .f32) := do
  let r0 ← pair i arg2 arg4 0 p h
  let r1 ← pair i arg2 arg4 1 p h
  let r2 ← pair i arg2 arg4 2 p h
  let r3 ← pair i arg2 arg4 3 p h
  let x : Vec F S512x256 .bf16 ← Prog.lift (.load arg8 (chunkRect p h).toLoadRect (View.loadsAt_vmem h_S512x256))
  pure (matmul dot_S512x256_S512x256_S512x512_1_1_0_0_n_n none x
    (concatenate S512x256 0 [⟨S128x256, r0⟩, ⟨S128x256, r1⟩, ⟨S128x256, r2⟩, ⟨S128x256, r3⟩] concatenates_S128x256_S128x256_S128x256_S128x256_S512x256_d0)
    (constant S512x512 .f32 0x00000000#32))

/-- The `n` products up to the twenty-seventh, added to what is summed so far. -/
def chunks (i : grid0.Coords) (arg2 : Memref sig .tc .smem S64x56 .f32) (arg4 : Memref sig .tc .vmem S512x7168 .fp8e4m3)
    (arg8 : Memref sig .tc .vmem S512x7168 .bf16) : (n : Nat) → n < 27 → FVec F S512x512 .f32 → Prog (TpuEff nD τ sig (Elt F) Λ₀ .tc) (FVec F S512x512 .f32)
  | 0, _, acc => pure acc
  | n + 1, h, acc => chunk i arg2 arg4 arg8 (26 - n) (by omega) >>= fun y => chunks i arg2 arg4 arg8 n (Nat.lt_of_succ_lt h) (addf acc y)

/-- The multiplying half of the body. -/
def product (i : grid0.Coords) (arg2 : Memref sig .tc .smem S64x56 .f32) (arg4 : Memref sig .tc .vmem S512x7168 .fp8e4m3)
    (arg5 : Memref sig .tc .vmem S512x512 .bf16) (harg5 : arg5.IsWhole) (arg8 : Memref sig .tc .vmem S512x7168 .bf16) : Prog (TpuEff nD τ sig (Elt F) Λ₀ .tc) PUnit := do
  let y ← chunk i arg2 arg4 arg8 0 (by decide)
  let acc ← chunks i arg2 arg4 arg8 26 (by decide) y
  let z ← chunk i arg2 arg4 arg8 27 (by decide)
  let _y : Vec F S512x512 .bf16 ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0) (truncf .bf16 (addf acc z) bitsLt_bf16_f32) Finset.univ (View.stores_vmem h_S512x512 (harg5.storeExact_slice rfl _ packedbf16_S512x512_S512x512_0_0) (fun _ => rfl)) (.inl rfl))
  pure ⟨⟩

end Cert.KernelIdeal.Own

end
-- ==== Proof.Printed.lean ====
/-
  The printed body cut at its conditional: its quantising half and its multiplying half, line by line as printed.
-/
module

public import proofs.«01_k».proof.Proof.Loops

@[expose] public section

noncomputable section

namespace Cert.KernelIdeal.Own

open Idealize.ShloMosaic Idealize.SL.Sem
open Cert.KernelIdeal.Gen

variable {F : FTy → Type} [FloatOps F]

/-- The printed quantising half, continued by `k`. -/
def headPrinted (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) {α : Type} (k : Prog (TpuEff nD τ sig (Elt F) Λ₀ .tc) α) :
    Prog (TpuEff nD τ sig (Elt F) Λ₀ .tc) α := do
  let ⟨v2244, v4901, v4903, v4957, v4960, c2122317824_i32_1871⟩ : Σ' (v2244 : IVec S512x56 32) (v4901 : FVec F S512x56 .f32) (v4903 : FVec F S512x128 .bf16) (v4957 : IVec S512x1 32) (v4960 : FVec F S512x1 .f32), BitVec 32 ← k0_part103 i arg2 harg2 arg3 harg3 arg4 harg4 arg5 harg5 arg6 harg6 arg7 harg7 arg8 harg8
  let ⟨v6810, v6869, v6875, cst_2424, cst_2425⟩ : Σ' (v6810 : FVec F S512x56 .f32) (v6869 : FVec F S512x1 .f32) (v6875 : FVec F S512x128 .f32) (cst_2424 : F .f32), F .f32 ← k0_part104 i arg2 harg2 arg3 harg3 arg4 harg4 arg5 harg5 arg6 harg6 arg7 harg7 arg8 harg8 v2244 v4901 v4903 v4957 v4960 c2122317824_i32_1871
  have v6876 : FVec F S512x128 .f32 := broadcast S512x128 cst_2424
  have v6877 : FVec F S512x128 .f32 := maximumf v6876 v6875
  have v6878 : FVec F S512x128 .f32 := broadcast S512x128 cst_2425
  have v6879 : FVec F S512x128 .f32 := minimumf v6878 v6877
  have v6880 : FVec F S512x128 .fp8e4m3 := truncf .fp8e4m3 v6879 bitsLt_fp8e4m3_f32
  have v6881 : FVec F S512x128 .bf16 := extf .bf16 v6880 bitsLt_fp8e4m3_bf16
  have v6882 : FVec F S512x1 .bf16 := truncf .bf16 v6869 bitsLt_bf16_f32
  have v6883 : FVec F S512x128 .bf16 := broadcastTo S512x128 v6882 broadcasts_S512x1_S512x128
  have v6884 : FVec F S512x128 .bf16 := mulf v6881 v6883
  let c0_2426 : Index := 0#32
  let c7040_2427 : Index := 7040#32
  let v6885 : Vec F S512x128 .fp8e4m3 ← Prog.lift (.load arg6 (Rect.unit (s := S512x7168) ![0, 7040] S512x128.size inb_S512x7168_S512x128_0_7040).toLoadRect (View.loadsAt_vmem h_S512x128))
  Prog.lift (.store arg6 (Rect.unit (s := S512x7168) ![0, 7040] S512x128.size inb_S512x7168_S512x128_0_7040) v6880 Finset.univ (View.stores_vmem h_S512x128 (harg6.storeExact_slice rfl _ packedfp8e4m3_S512x7168_S512x128_0_7040) (fun _ => rfl)) (.inl rfl))
  let c0_2428 : Index := 0#32
  let c7040_2429 : Index := 7040#32
  let v6886 : Vec F S512x128 .bf16 ← Prog.lift (.load arg8 (Rect.unit (s := S512x7168) ![0, 7040] S512x128.size inb_S512x7168_S512x128_0_7040).toLoadRect (View.loadsAt_vmem h_S512x128))
  have v6887 : FVec F S512x128 .bf16 := shapeCast S512x128 v6886 shapeCasts_S512x128_S512x128
  have v6888 : FVec F S512x128 .bf16 := shapeCast S512x128 v6884 shapeCasts_S512x128_S512x128
  Prog.lift (.store arg8 (Rect.unit (s := S512x7168) ![0, 7040] S512x128.size inb_S512x7168_S512x128_0_7040) v6888 Finset.univ (View.stores_vmem h_S512x128 (harg8.storeExact_slice rfl _ packedbf16_S512x7168_S512x128_0_7040) (fun _ => rfl)) (.inl rfl))
  let c55_i32 : BitVec 32 := 55#32
  have v6889 : IVec S512x56 32 := broadcast S512x56 c55_i32
  have v6890 : IVec S512x56 1 := cmpi .eq v2244 v6889
  have v6891 : FVec F S512x1 .f32 := shapeCast S512x1 v6869 shapeCasts_S512x1_S512x1
  have v6892 : FVec F S512x56 .f32 := broadcastTo S512x56 v6891 broadcasts_S512x1_S512x56
  have v6893 : FVec F S512x56 .f32 := select v6890 v6892 v6810
  let c0_2430 : Index := 0#32
  let c0_2431 : Index := 0#32
  let v6894 : Vec F S512x56 .f32 ← Prog.lift (.load arg7 (Rect.unit (s := S512x56) ![0, 0] S512x56.size inb_S512x56_S512x56_0_0).toLoadRect (View.loadsAt_vmem h_S512x56))
  Prog.lift (.store arg7 (Rect.unit (s := S512x56) ![0, 0] S512x56.size inb_S512x56_S512x56_0_0) v6893 Finset.univ (View.stores_vmem_bits_univ h_S512x56 rfl) (.inl rfl))
  k

/-- The printed multiplying half: its first tiles, the rest of its products but the last tiles, and the end. -/
def tailFirst (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) :
    Prog (TpuEff nD τ sig (Elt F) Λ₀ .tc) (Σ' (arg1 : BitVec 32) (v21 : FVec F S128x256 .bf16) (v30 : FVec F S128x128 .bf16), Vec F S128x128 .fp8e4m3) := do
  let arg1 : BitVec 32 := BitVec.ofNat 32 (i 1).val
  let c0 : Index := 0#32
  let c0_1 : Index := 0#32
  let v3 : Vec F S128x128 .fp8e4m3 ← Prog.lift (.load arg4 (Rect.unit (s := S512x7168) ![0, 0] S128x128.size inb_S512x7168_S128x128_0_0).toLoadRect (View.loadsAt_vmem h_S128x128))
  let c4_i32 : BitVec 32 := 4#32
  let v4 : BitVec 32 := Scalar.muli arg1 c4_i32
  let c0_i32_2 : BitVec 32 := 0#32
  let v5 : BitVec 32 := Scalar.addi v4 c0_i32_2
  let v6 : Index := Scalar.indexCast v5
  let c0_3 : Index := 0#32
  let v7 : Elt F .f32 ← smemLoad arg2 (Rect.unit (s := S64x56) (k0_off1 i 0#32) S1x1.size (k0_off1_inb i 0)) numel1_S1x1 rfl
  have v8 : FVec F S128x128 .f32 := broadcast S128x128 v7
  have v9 : FVec F S128x128 .bf16 := truncf .bf16 v8 bitsLt_bf16_f32
  have v10 : FVec F S128x128 .bf16 := extf .bf16 v3 bitsLt_fp8e4m3_bf16
  have v11 : FVec F S128x128 .bf16 := mulf v10 v9
  let c0_4 : Index := 0#32
  let c128 : Index := 128#32
  let v12 : Vec F S128x128 .fp8e4m3 ← Prog.lift (.load arg4 (Rect.unit (s := S512x7168) ![0, 128] S128x128.size inb_S512x7168_S128x128_0_128).toLoadRect (View.loadsAt_vmem h_S128x128))
  let c4_i32_5 : BitVec 32 := 4#32
  let v13 : BitVec 32 := Scalar.muli arg1 c4_i32_5
  let c0_i32_6 : BitVec 32 := 0#32
  let v14 : BitVec 32 := Scalar.addi v13 c0_i32_6
  let v15 : Index := Scalar.indexCast v14
  let c1 : Index := 1#32
  let v16 : Elt F .f32 ← smemLoad arg2 (Rect.unit (s := S64x56) (k0_off2 i 0#32) S1x1.size (k0_off2_inb i 0)) numel1_S1x1 rfl
  have v17 : FVec F S128x128 .f32 := broadcast S128x128 v16
  have v18 : FVec F S128x128 .bf16 := truncf .bf16 v17 bitsLt_bf16_f32
  have v19 : FVec F S128x128 .bf16 := extf .bf16 v12 bitsLt_fp8e4m3_bf16
  have v20 : FVec F S128x128 .bf16 := mulf v19 v18
  have v21 : FVec F S128x256 .bf16 := concatenate S128x256 1 [⟨S128x128, v11⟩, ⟨S128x128, v20⟩] concatenates_S128x128_S128x128_S128x256_d1
  let c128_7 : Index := 128#32
  let c0_8 : Index := 0#32
  let v22 : Vec F S128x128 .fp8e4m3 ← Prog.lift (.load arg4 (Rect.unit (s := S512x7168) ![128, 0] S128x128.size inb_S512x7168_S128x128_128_0).toLoadRect (View.loadsAt_vmem h_S128x128))
  let c4_i32_9 : BitVec 32 := 4#32
  let v23 : BitVec 32 := Scalar.muli arg1 c4_i32_9
  let c1_i32 : BitVec 32 := 1#32
  let v24 : BitVec 32 := Scalar.addi v23 c1_i32
  let v25 : Index := Scalar.indexCast v24
  let c0_10 : Index := 0#32
  let v26 : Elt F .f32 ← smemLoad arg2 (Rect.unit (s := S64x56) (k0_off1 i 1#32) S1x1.size (k0_off1_inb i 1)) numel1_S1x1 rfl
  have v27 : FVec F S128x128 .f32 := broadcast S128x128 v26
  have v28 : FVec F S128x128 .bf16 := truncf .bf16 v27 bitsLt_bf16_f32
  have v29 : FVec F S128x128 .bf16 := extf .bf16 v22 bitsLt_fp8e4m3_bf16
  have v30 : FVec F S128x128 .bf16 := mulf v29 v28
  let c128_11 : Index := 128#32
  let c128_12 : Index := 128#32
  let v31 : Vec F S128x128 .fp8e4m3 ← Prog.lift (.load arg4 (Rect.unit (s := S512x7168) ![128, 128] S128x128.size inb_S512x7168_S128x128_128_128).toLoadRect (View.loadsAt_vmem h_S128x128))
  let c4_i32_13 : BitVec 32 := 4#32
  let v32 : BitVec 32 := Scalar.muli arg1 c4_i32_13
  let c1_i32_14 : BitVec 32 := 1#32
  let v33 : BitVec 32 := Scalar.addi v32 c1_i32_14
  let v34 : Index := Scalar.indexCast v33
  let c1_15 : Index := 1#32
  pure ⟨arg1, v21, v30, v31⟩

@[inherit_doc tailFirst]
def tailRest (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) : (Σ' (arg1 : BitVec 32) (v21 : FVec F S128x256 .bf16) (v30 : FVec F S128x128 .bf16), Vec F S128x128 .fp8e4m3) →
    Prog (TpuEff nD τ sig (Elt F) Λ₀ .tc) (Σ' (arg1 : BitVec 32) (v2161 : FVec F S512x512 .f32) (v2180 : FVec F S128x256 .bf16) (v2199 : FVec F S128x256 .bf16) (v2218 : FVec F S128x256 .bf16), Vec F S128x128 .fp8e4m3) := fun ⟨arg1, v21, v30, v31⟩ => do
  let ⟨v40, v59, v68, v69, v74⟩ : Σ' (v40 : FVec F S128x256 .bf16) (v59 : FVec F S128x256 .bf16) (v68 : FVec F S128x128 .bf16) (v69 : Vec F S128x128 .fp8e4m3), FVec F S128x128 .f32 ← k0_part106 i arg2 harg2 arg3 harg3 arg4 harg4 arg5 harg5 arg6 harg6 arg7 harg7 arg8 harg8 arg1 v30 v31
  let ⟨v81, v100, v109, v110, v112⟩ : Σ' (v81 : FVec F S512x512 .f32) (v100 : FVec F S128x256 .bf16) (v109 : FVec F S128x128 .bf16) (v110 : Vec F S128x128 .fp8e4m3), BitVec 32 ← k0_part107 i arg2 harg2 arg3 harg3 arg4 harg4 arg5 harg5 arg6 harg6 arg7 harg7 arg8 harg8 arg1 v21 v40 v59 v68 v69 v74
  let ⟨v119, v138, v147, v148⟩ : Σ' (v119 : FVec F S128x256 .bf16) (v138 : FVec F S128x256 .bf16) (v147 : FVec F S128x128 .bf16), Vec F S128x128 .fp8e4m3 ← k0_part108 i arg2 harg2 arg3 harg3 arg4 harg4 arg5 harg5 arg6 harg6 arg7 harg7 arg8 harg8 arg1 v109 v110 v112
  let ⟨v161, v180, v189, v190, c4_i32_88⟩ : Σ' (v161 : FVec F S512x512 .f32) (v180 : FVec F S128x256 .bf16) (v189 : FVec F S128x128 .bf16) (v190 : Vec F S128x128 .fp8e4m3), BitVec 32 ← k0_part109 i arg2 harg2 arg3 harg3 arg4 harg4 arg5 harg5 arg6 harg6 arg7 harg7 arg8 harg8 arg1 v81 v100 v119 v138 v147 v148
  let ⟨v199, v218, v227, v228, v229, c3_i32_109⟩ : Σ' (v199 : FVec F S128x256 .bf16) (v218 : FVec F S128x256 .bf16) (v227 : FVec F S128x128 .bf16) (v228 : Vec F S128x128 .fp8e4m3) (v229 : BitVec 32), BitVec 32 ← k0_part110 i arg2 harg2 arg3 harg3 arg4 harg4 arg5 harg5 arg6 harg6 arg7 harg7 arg8 harg8 arg1 v189 v190 c4_i32_88
  let ⟨v241, v260, v269⟩ : Σ' (v241 : FVec F S512x512 .f32) (v260 : FVec F S128x256 .bf16), FVec F S128x128 .bf16 ← k0_part111 i arg2 harg2 arg3 harg3 arg4 harg4 arg5 harg5 arg6 harg6 arg7 harg7 arg8 harg8 arg1 v161 v180 v199 v218 v227 v228 v229 c3_i32_109
  let ⟨v279, v298, v307, v308⟩ : Σ' (v279 : FVec F S128x256 .bf16) (v298 : FVec F S128x256 .bf16) (v307 : FVec F S128x128 .bf16), Vec F S128x128 .fp8e4m3 ← k0_part112 i arg2 harg2 arg3 harg3 arg4 harg4 arg5 harg5 arg6 harg6 arg7 harg7 arg8 harg8 arg1 v269
  let ⟨v321, v340, v341, v347⟩ : Σ' (v321 : FVec F S512x512 .f32) (v340 : FVec F S128x256 .bf16) (v341 : Vec F S128x128 .fp8e4m3), FVec F S128x128 .bf16 ← k0_part113 i arg2 harg2 arg3 harg3 arg4 harg4 arg5 harg5 arg6 harg6 arg7 harg7 arg8 harg8 arg1 v241 v260 v279 v298 v307 v308
  let ⟨v359, v378, v387⟩ : Σ' (v359 : FVec F S128x256 .bf16) (v378 : FVec F S128x256 .bf16), FVec F S128x128 .bf16 ← k0_part114 i arg2 harg2 arg3 harg3 arg4 harg4 arg5 harg5 arg6 harg6 arg7 harg7 arg8 harg8 arg1 v341 v347
  let ⟨v401, v420, v421⟩ : Σ' (v401 : FVec F S512x512 .f32) (v420 : FVec F S128x256 .bf16), Vec F S128x128 .fp8e4m3 ← k0_part115 i arg2 harg2 arg3 harg3 arg4 harg4 arg5 harg5 arg6 harg6 arg7 harg7 arg8 harg8 arg1 v321 v340 v359 v378 v387
  let ⟨v439, v458, v459, v464⟩ : Σ' (v439 : FVec F S128x256 .bf16) (v458 : FVec F S128x256 .bf16) (v459 : Vec F S128x128 .fp8e4m3), FVec F S128x128 .f32 ← k0_part116 i arg2 harg2 arg3 harg3 arg4 harg4 arg5 harg5 arg6 harg6 arg7 harg7 arg8 harg8 arg1 v421
  let ⟨v481, v500, v501, v502, c1_i32_240⟩ : Σ' (v481 : FVec F S512x512 .f32) (v500 : FVec F S128x256 .bf16) (v501 : Vec F S128x128 .fp8e4m3) (v502 : BitVec 32), BitVec 32 ← k0_part117 i arg2 harg2 arg3 harg3 arg4 harg4 arg5 harg5 arg6 harg6 arg7 harg7 arg8 harg8 arg1 v401 v420 v439 v458 v459 v464
  let ⟨v519, v538, v539⟩ : Σ' (v519 : FVec F S128x256 .bf16) (v538 : FVec F S128x256 .bf16), Vec F S128x128 .fp8e4m3 ← k0_part118 i arg2 harg2 arg3 harg3 arg4 harg4 arg5 harg5 arg6 harg6 arg7 harg7 arg8 harg8 arg1 v501 v502 c1_i32_240
  let ⟨v561, v580, v581⟩ : Σ' (v561 : FVec F S512x512 .f32) (v580 : FVec F S128x256 .bf16), Vec F S128x128 .fp8e4m3 ← k0_part119 i arg2 harg2 arg3 harg3 arg4 harg4 arg5 harg5 arg6 harg6 arg7 harg7 arg8 harg8 arg1 v481 v500 v519 v538 v539
  let ⟨v599, v618, v619, v620⟩ : Σ' (v599 : FVec F S128x256 .bf16) (v618 : FVec F S128x256 .bf16) (v619 : Vec F S128x128 .fp8e4m3), BitVec 32 ← k0_part120 i arg2 harg2 arg3 harg3 arg4 harg4 arg5 harg5 arg6 harg6 arg7 harg7 arg8 harg8 arg1 v581
  let ⟨v641, v660⟩ : Σ' (v641 : FVec F S512x512 .f32), FVec F S128x256 .bf16 ← k0_part121 i arg2 harg2 arg3 harg3 arg4 harg4 arg5 harg5 arg6 harg6 arg7 harg7 arg8 harg8 arg1 v561 v580 v599 v618 v619 v620
  let ⟨v679, v698⟩ : Σ' (v679 : FVec F S128x256 .bf16), FVec F S128x256 .bf16 ← k0_part122 i arg2 harg2 arg3 harg3 arg4 harg4 arg5 harg5 arg6 harg6 arg7 harg7 arg8 harg8 arg1
  let ⟨v721, v730, v731, v737⟩ : Σ' (v721 : FVec F S512x512 .f32) (v730 : FVec F S128x128 .bf16) (v731 : Vec F S128x128 .fp8e4m3), FVec F S128x128 .bf16 ← k0_part123 i arg2 harg2 arg3 harg3 arg4 harg4 arg5 harg5 arg6 harg6 arg7 harg7 arg8 harg8 arg1 v641 v660 v679 v698
  let ⟨v740, v759, v768, v777⟩ : Σ' (v740 : FVec F S128x256 .bf16) (v759 : FVec F S128x256 .bf16) (v768 : FVec F S128x128 .bf16), FVec F S128x128 .bf16 ← k0_part124 i arg2 harg2 arg3 harg3 arg4 harg4 arg5 harg5 arg6 harg6 arg7 harg7 arg8 harg8 arg1 v730 v731 v737
  let ⟨v801, v810, v811⟩ : Σ' (v801 : FVec F S512x512 .f32) (v810 : FVec F S128x128 .bf16), Vec F S128x128 .fp8e4m3 ← k0_part125 i arg2 harg2 arg3 harg3 arg4 harg4 arg5 harg5 arg6 harg6 arg7 harg7 arg8 harg8 arg1 v721 v740 v759 v768 v777
  let ⟨v820, v839, v848, v849, v854⟩ : Σ' (v820 : FVec F S128x256 .bf16) (v839 : FVec F S128x256 .bf16) (v848 : FVec F S128x128 .bf16) (v849 : Vec F S128x128 .fp8e4m3), FVec F S128x128 .f32 ← k0_part126 i arg2 harg2 arg3 harg3 arg4 harg4 arg5 harg5 arg6 harg6 arg7 harg7 arg8 harg8 arg1 v810 v811
  let ⟨v881, v890, v891, v892, c0_i32_431⟩ : Σ' (v881 : FVec F S512x512 .f32) (v890 : FVec F S128x128 .bf16) (v891 : Vec F S128x128 .fp8e4m3) (v892 : BitVec 32), BitVec 32 ← k0_part127 i arg2 harg2 arg3 harg3 arg4 harg4 arg5 harg5 arg6 harg6 arg7 harg7 arg8 harg8 arg1 v801 v820 v839 v848 v849 v854
  let ⟨v900, v919, v928, v929⟩ : Σ' (v900 : FVec F S128x256 .bf16) (v919 : FVec F S128x256 .bf16) (v928 : FVec F S128x128 .bf16), Vec F S128x128 .fp8e4m3 ← k0_part128 i arg2 harg2 arg3 harg3 arg4 harg4 arg5 harg5 arg6 harg6 arg7 harg7 arg8 harg8 arg1 v890 v891 v892 c0_i32_431
  let ⟨v961, v970, v971⟩ : Σ' (v961 : FVec F S512x512 .f32) (v970 : FVec F S128x128 .bf16), Vec F S128x128 .fp8e4m3 ← k0_part129 i arg2 harg2 arg3 harg3 arg4 harg4 arg5 harg5 arg6 harg6 arg7 harg7 arg8 harg8 arg1 v881 v900 v919 v928 v929
  let ⟨v980, v999, v1008, v1009, v1010⟩ : Σ' (v980 : FVec F S128x256 .bf16) (v999 : FVec F S128x256 .bf16) (v1008 : FVec F S128x128 .bf16) (v1009 : Vec F S128x128 .fp8e4m3), BitVec 32 ← k0_part130 i arg2 harg2 arg3 harg3 arg4 harg4 arg5 harg5 arg6 harg6 arg7 harg7 arg8 harg8 arg1 v970 v971
  let ⟨v1041, v1050⟩ : Σ' (v1041 : FVec F S512x512 .f32), FVec F S128x128 .bf16 ← k0_part131 i arg2 harg2 arg3 harg3 arg4 harg4 arg5 harg5 arg6 harg6 arg7 harg7 arg8 harg8 arg1 v961 v980 v999 v1008 v1009 v1010
  let ⟨v1060, v1079, v1088⟩ : Σ' (v1060 : FVec F S128x256 .bf16) (v1079 : FVec F S128x256 .bf16), FVec F S128x128 .bf16 ← k0_part132 i arg2 harg2 arg3 harg3 arg4 harg4 arg5 harg5 arg6 harg6 arg7 harg7 arg8 harg8 arg1 v1050
  let ⟨v1121, v1122, v1127⟩ : Σ' (v1121 : FVec F S512x512 .f32) (v1122 : Vec F S128x128 .fp8e4m3), FVec F S128x128 .f32 ← k0_part133 i arg2 harg2 arg3 harg3 arg4 harg4 arg5 harg5 arg6 harg6 arg7 harg7 arg8 harg8 arg1 v1041 v1060 v1079 v1088
  let ⟨v1140, v1159, v1166, v1167⟩ : Σ' (v1140 : FVec F S128x256 .bf16) (v1159 : FVec F S128x256 .bf16) (v1166 : FVec F S128x128 .bf16), FVec F S128x128 .bf16 ← k0_part134 i arg2 harg2 arg3 harg3 arg4 harg4 arg5 harg5 arg6 harg6 arg7 harg7 arg8 harg8 arg1 v1122 v1127
  let ⟨v1201, v1202⟩ : Σ' (v1201 : FVec F S512x512 .f32), Vec F S128x128 .fp8e4m3 ← k0_part135 i arg2 harg2 arg3 harg3 arg4 harg4 arg5 harg5 arg6 harg6 arg7 harg7 arg8 harg8 arg1 v1121 v1140 v1159 v1166 v1167
  let ⟨v1220, v1239, v1240, v1244⟩ : Σ' (v1220 : FVec F S128x256 .bf16) (v1239 : FVec F S128x256 .bf16) (v1240 : Vec F S128x128 .fp8e4m3), Elt F .f32 ← k0_part136 i arg2 harg2 arg3 harg3 arg4 harg4 arg5 harg5 arg6 harg6 arg7 harg7 arg8 harg8 arg1 v1202
  let ⟨v1281, v1282, v1283⟩ : Σ' (v1281 : FVec F S512x512 .f32) (v1282 : Vec F S128x128 .fp8e4m3), BitVec 32 ← k0_part137 i arg2 harg2 arg3 harg3 arg4 harg4 arg5 harg5 arg6 harg6 arg7 harg7 arg8 harg8 arg1 v1201 v1220 v1239 v1240 v1244
  let ⟨v1300, v1319, v1320, v1322⟩ : Σ' (v1300 : FVec F S128x256 .bf16) (v1319 : FVec F S128x256 .bf16) (v1320 : Vec F S128x128 .fp8e4m3), BitVec 32 ← k0_part138 i arg2 harg2 arg3 harg3 arg4 harg4 arg5 harg5 arg6 harg6 arg7 harg7 arg8 harg8 arg1 v1282 v1283
  let v1361 : FVec F S512x512 .f32 ← k0_part139 i arg2 harg2 arg3 harg3 arg4 harg4 arg5 harg5 arg6 harg6 arg7 harg7 arg8 harg8 arg1 v1281 v1300 v1319 v1320 v1322
  let ⟨v1380, v1399, v1400, c4_i32_678⟩ : Σ' (v1380 : FVec F S128x256 .bf16) (v1399 : FVec F S128x256 .bf16) (v1400 : Vec F S128x128 .fp8e4m3), BitVec 32 ← k0_part140 i arg2 harg2 arg3 harg3 arg4 harg4 arg5 harg5 arg6 harg6 arg7 harg7 arg8 harg8 arg1
  let v1440 : FVec F S512x512 .f32 ← k0_part141 i arg2 harg2 arg3 harg3 arg4 harg4 arg5 harg5 arg6 harg6 arg7 harg7 arg8 harg8 arg1 v1380 v1399 v1400 c4_i32_678
  let ⟨v1441, v1460, v1479⟩ : Σ' (v1441 : FVec F S512x512 .f32) (v1460 : FVec F S128x256 .bf16), FVec F S128x256 .bf16 ← k0_part142 i arg2 harg2 arg3 harg3 arg4 harg4 arg5 harg5 arg6 harg6 arg7 harg7 arg8 harg8 arg1 v1361 v1440
  let v1518 : FVec F S512x256 .bf16 ← k0_part143 i arg2 harg2 arg3 harg3 arg4 harg4 arg5 harg5 arg6 harg6 arg7 harg7 arg8 harg8 arg1 v1460 v1479
  let ⟨v1521, v1540, v1549, v1556, v1557⟩ : Σ' (v1521 : FVec F S512x512 .f32) (v1540 : FVec F S128x256 .bf16) (v1549 : FVec F S128x128 .bf16) (v1556 : FVec F S128x128 .bf16), FVec F S128x128 .bf16 ← k0_part144 i arg2 harg2 arg3 harg3 arg4 harg4 arg5 harg5 arg6 harg6 arg7 harg7 arg8 harg8 arg1 v1441 v1518
  let ⟨v1559, v1578, v1597⟩ : Σ' (v1559 : FVec F S128x256 .bf16) (v1578 : FVec F S128x256 .bf16), FVec F S128x256 .bf16 ← k0_part145 i arg2 harg2 arg3 harg3 arg4 harg4 arg5 harg5 arg6 harg6 arg7 harg7 arg8 harg8 arg1 v1549 v1556 v1557
  let ⟨v1601, v1620, v1629, v1630, v1634⟩ : Σ' (v1601 : FVec F S512x512 .f32) (v1620 : FVec F S128x256 .bf16) (v1629 : FVec F S128x128 .bf16) (v1630 : Vec F S128x128 .fp8e4m3), Elt F .f32 ← k0_part146 i arg2 harg2 arg3 harg3 arg4 harg4 arg5 harg5 arg6 harg6 arg7 harg7 arg8 harg8 arg1 v1521 v1540 v1559 v1578 v1597
  let ⟨v1639, v1658, v1667, v1668, v1674⟩ : Σ' (v1639 : FVec F S128x256 .bf16) (v1658 : FVec F S128x256 .bf16) (v1667 : FVec F S128x128 .bf16) (v1668 : Vec F S128x128 .fp8e4m3), FVec F S128x128 .bf16 ← k0_part147 i arg2 harg2 arg3 harg3 arg4 harg4 arg5 harg5 arg6 harg6 arg7 harg7 arg8 harg8 arg1 v1629 v1630 v1634
  let ⟨v1681, v1700, v1709, v1710, v1712⟩ : Σ' (v1681 : FVec F S512x512 .f32) (v1700 : FVec F S128x256 .bf16) (v1709 : FVec F S128x128 .bf16) (v1710 : Vec F S128x128 .fp8e4m3), BitVec 32 ← k0_part148 i arg2 harg2 arg3 harg3 arg4 harg4 arg5 harg5 arg6 harg6 arg7 harg7 arg8 harg8 arg1 v1601 v1620 v1639 v1658 v1667 v1668 v1674
  let ⟨v1719, v1738, v1747, v1748⟩ : Σ' (v1719 : FVec F S128x256 .bf16) (v1738 : FVec F S128x256 .bf16) (v1747 : FVec F S128x128 .bf16), Vec F S128x128 .fp8e4m3 ← k0_part149 i arg2 harg2 arg3 harg3 arg4 harg4 arg5 harg5 arg6 harg6 arg7 harg7 arg8 harg8 arg1 v1709 v1710 v1712
  let ⟨v1761, v1780, v1789, v1790, c4_i32_868⟩ : Σ' (v1761 : FVec F S512x512 .f32) (v1780 : FVec F S128x256 .bf16) (v1789 : FVec F S128x128 .bf16) (v1790 : Vec F S128x128 .fp8e4m3), BitVec 32 ← k0_part150 i arg2 harg2 arg3 harg3 arg4 harg4 arg5 harg5 arg6 harg6 arg7 harg7 arg8 harg8 arg1 v1681 v1700 v1719 v1738 v1747 v1748
  let ⟨v1799, v1818, v1827, v1828, v1829, c3_i32_889⟩ : Σ' (v1799 : FVec F S128x256 .bf16) (v1818 : FVec F S128x256 .bf16) (v1827 : FVec F S128x128 .bf16) (v1828 : Vec F S128x128 .fp8e4m3) (v1829 : BitVec 32), BitVec 32 ← k0_part151 i arg2 harg2 arg3 harg3 arg4 harg4 arg5 harg5 arg6 harg6 arg7 harg7 arg8 harg8 arg1 v1789 v1790 c4_i32_868
  let ⟨v1841, v1860, v1869⟩ : Σ' (v1841 : FVec F S512x512 .f32) (v1860 : FVec F S128x256 .bf16), FVec F S128x128 .bf16 ← k0_part152 i arg2 harg2 arg3 harg3 arg4 harg4 arg5 harg5 arg6 harg6 arg7 harg7 arg8 harg8 arg1 v1761 v1780 v1799 v1818 v1827 v1828 v1829 c3_i32_889
  let ⟨v1879, v1898, v1907, v1908⟩ : Σ' (v1879 : FVec F S128x256 .bf16) (v1898 : FVec F S128x256 .bf16) (v1907 : FVec F S128x128 .bf16), Vec F S128x128 .fp8e4m3 ← k0_part153 i arg2 harg2 arg3 harg3 arg4 harg4 arg5 harg5 arg6 harg6 arg7 harg7 arg8 harg8 arg1 v1869
  let ⟨v1921, v1940, v1941, v1947⟩ : Σ' (v1921 : FVec F S512x512 .f32) (v1940 : FVec F S128x256 .bf16) (v1941 : Vec F S128x128 .fp8e4m3), FVec F S128x128 .bf16 ← k0_part154 i arg2 harg2 arg3 harg3 arg4 harg4 arg5 harg5 arg6 harg6 arg7 harg7 arg8 harg8 arg1 v1841 v1860 v1879 v1898 v1907 v1908
  let ⟨v1959, v1978, v1987⟩ : Σ' (v1959 : FVec F S128x256 .bf16) (v1978 : FVec F S128x256 .bf16), FVec F S128x128 .bf16 ← k0_part155 i arg2 harg2 arg3 harg3 arg4 harg4 arg5 harg5 arg6 harg6 arg7 harg7 arg8 harg8 arg1 v1941 v1947
  let ⟨v2001, v2020, v2021⟩ : Σ' (v2001 : FVec F S512x512 .f32) (v2020 : FVec F S128x256 .bf16), Vec F S128x128 .fp8e4m3 ← k0_part156 i arg2 harg2 arg3 harg3 arg4 harg4 arg5 harg5 arg6 harg6 arg7 harg7 arg8 harg8 arg1 v1921 v1940 v1959 v1978 v1987
  let ⟨v2039, v2058, v2059, v2064⟩ : Σ' (v2039 : FVec F S128x256 .bf16) (v2058 : FVec F S128x256 .bf16) (v2059 : Vec F S128x128 .fp8e4m3), FVec F S128x128 .f32 ← k0_part157 i arg2 harg2 arg3 harg3 arg4 harg4 arg5 harg5 arg6 harg6 arg7 harg7 arg8 harg8 arg1 v2021
  let ⟨v2081, v2100, v2101, v2102, c1_i32_1020⟩ : Σ' (v2081 : FVec F S512x512 .f32) (v2100 : FVec F S128x256 .bf16) (v2101 : Vec F S128x128 .fp8e4m3) (v2102 : BitVec 32), BitVec 32 ← k0_part158 i arg2 harg2 arg3 harg3 arg4 harg4 arg5 harg5 arg6 harg6 arg7 harg7 arg8 harg8 arg1 v2001 v2020 v2039 v2058 v2059 v2064
  let ⟨v2119, v2138, v2139⟩ : Σ' (v2119 : FVec F S128x256 .bf16) (v2138 : FVec F S128x256 .bf16), Vec F S128x128 .fp8e4m3 ← k0_part159 i arg2 harg2 arg3 harg3 arg4 harg4 arg5 harg5 arg6 harg6 arg7 harg7 arg8 harg8 arg1 v2101 v2102 c1_i32_1020
  let ⟨v2161, v2180, v2181⟩ : Σ' (v2161 : FVec F S512x512 .f32) (v2180 : FVec F S128x256 .bf16), Vec F S128x128 .fp8e4m3 ← k0_part160 i arg2 harg2 arg3 harg3 arg4 harg4 arg5 harg5 arg6 harg6 arg7 harg7 arg8 harg8 arg1 v2081 v2100 v2119 v2138 v2139
  let ⟨v2199, v2218, v2219, v2220⟩ : Σ' (v2199 : FVec F S128x256 .bf16) (v2218 : FVec F S128x256 .bf16) (v2219 : Vec F S128x128 .fp8e4m3), BitVec 32 ← k0_part161 i arg2 harg2 arg3 harg3 arg4 harg4 arg5 harg5 arg6 harg6 arg7 harg7 arg8 harg8 arg1 v2181
  let c3_i32_1079 : BitVec 32 := 3#32
  let v2221 : BitVec 32 := Scalar.addi v2220 c3_i32_1079
  let v2222 : Index := Scalar.indexCast v2221
  pure ⟨arg1, v2161, v2180, v2199, v2218, v2219⟩

-- func.func @fp8_linear(%arg0: i32, %arg1: i32, %arg2: memref<64x56xf32, #tpu.memory_space<smem>>, %arg3: memref<512x7168xbf16, #tpu.memory_space<vmem>>, %arg4: memref<512x7168xf8E4M3FN, #tpu.memory_space<vmem>>, %arg5: memref<512x512xbf16, #tpu.memory_space<vmem>>, %arg6: memref<512x7168xf8E4M3FN, #tpu.memory_space<vmem>>, %arg7: memref<512x56xf32, #tpu.memory_space<vmem>>, %arg8: memref<512x7168xbf16, #tpu.memory_space<vmem>>) attributes {dimension_semantics = [#tpu.dimension_semantics<arbitrary>, #tpu.dimension_semantics<arbitrary>], iteration_bounds = array<i64: 48, 16>, scalar_prefetch = 0 : i64, scratch_operands = 1 : i64, tpu.core_type = #tpu.core_type<tc>, window_params = [{transform_indices = @transform_0, window_bounds = array<i64: 64, 56>}, {transform_indices = @transform_1, window_bounds = array<i64: 512, 7168>}, {transform_indices = @transform_2, window_bounds = array<i64: 512, 7168>}, {transform_indices = @transform_3, window_bounds = array<i64: 512, 512>}, {transform_indices = @transform_4, window_bounds = array<i64: 512, 7168>}, {transform_indices = @transform_5, window_bounds = array<i64: 512, 56>}]}

@[inherit_doc tailFirst]
def tailLast (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) : (Σ' (arg1 : BitVec 32) (v2161 : FVec F S512x512 .f32) (v2180 : FVec F S128x256 .bf16) (v2199 : FVec F S128x256 .bf16) (v2218 : FVec F S128x256 .bf16), Vec F S128x128 .fp8e4m3) →
    Prog (TpuEff nD τ sig (Elt F) Λ₀ .tc) PUnit := fun ⟨arg1, v2161, v2180, v2199, v2218, v2219⟩ => do
  let c54_1080 : Index := 54#32
  let v2223 : Elt F .f32 ← smemLoad arg2 (Rect.unit (s := S64x56) (k0_off55 i 3#32) S1x1.size (k0_off55_inb i 3)) numel1_S1x1 rfl
  have v2224 : FVec F S128x128 .f32 := broadcast S128x128 v2223
  have v2225 : FVec F S128x128 .bf16 := truncf .bf16 v2224 bitsLt_bf16_f32
  have v2226 : FVec F S128x128 .bf16 := extf .bf16 v2219 bitsLt_fp8e4m3_bf16
  have v2227 : FVec F S128x128 .bf16 := mulf v2226 v2225
  let c384_1081 : Index := 384#32
  let c7040_1082 : Index := 7040#32
  let v2228 : Vec F S128x128 .fp8e4m3 ← Prog.lift (.load arg4 (Rect.unit (s := S512x7168) ![384, 7040] S128x128.size inb_S512x7168_S128x128_384_7040).toLoadRect (View.loadsAt_vmem h_S128x128))
  let c4_i32_1083 : BitVec 32 := 4#32
  let v2229 : BitVec 32 := Scalar.muli arg1 c4_i32_1083
  let c3_i32_1084 : BitVec 32 := 3#32
  let v2230 : BitVec 32 := Scalar.addi v2229 c3_i32_1084
  let v2231 : Index := Scalar.indexCast v2230
  let c55_1085 : Index := 55#32
  let v2232 : Elt F .f32 ← smemLoad arg2 (Rect.unit (s := S64x56) (k0_off56 i 3#32) S1x1.size (k0_off56_inb i 3)) numel1_S1x1 rfl
  have v2233 : FVec F S128x128 .f32 := broadcast S128x128 v2232
  have v2234 : FVec F S128x128 .bf16 := truncf .bf16 v2233 bitsLt_bf16_f32
  have v2235 : FVec F S128x128 .bf16 := extf .bf16 v2228 bitsLt_fp8e4m3_bf16
  have v2236 : FVec F S128x128 .bf16 := mulf v2235 v2234
  have v2237 : FVec F S128x256 .bf16 := concatenate S128x256 1 [⟨S128x128, v2227⟩, ⟨S128x128, v2236⟩] concatenates_S128x128_S128x128_S128x256_d1
  have v2238 : FVec F S512x256 .bf16 := concatenate S512x256 0 [⟨S128x256, v2180⟩, ⟨S128x256, v2199⟩, ⟨S128x256, v2218⟩, ⟨S128x256, v2237⟩] concatenates_S128x256_S128x256_S128x256_S128x256_S512x256_d0
  let c0_1086 : Index := 0#32
  let c6912_1087 : Index := 6912#32
  let v2239 : Vec F S512x256 .bf16 ← Prog.lift (.load arg8 (Rect.unit (s := S512x7168) ![0, 6912] S512x256.size inb_S512x7168_S512x256_0_6912).toLoadRect (View.loadsAt_vmem h_S512x256))
  have cst_1088 : FVec F S512x512 .f32 := constant S512x512 .f32 0x00000000#32
  have v2240 : FVec F S512x512 .f32 := matmul dot_S512x256_S512x256_S512x512_1_1_0_0_n_n none v2239 v2238 cst_1088
  have v2241 : FVec F S512x512 .f32 := addf v2161 v2240
  have v2242 : FVec F S512x512 .bf16 := truncf .bf16 v2241 bitsLt_bf16_f32
  let c0_1089 : Index := 0#32
  let c0_1090 : Index := 0#32
  let v2243 : Vec F S512x512 .bf16 ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0) v2242 Finset.univ (View.stores_vmem h_S512x512 (harg5.storeExact_slice rfl _ packedbf16_S512x512_S512x512_0_0) (fun _ => rfl)) (.inl rfl))
  pure ⟨⟩

/-- The last product's tiles but its last, read. -/
def lastPairs (i : grid0.Coords) (arg2 : Memref sig .tc .smem S64x56 .f32) (arg4 : Memref sig .tc .vmem S512x7168 .fp8e4m3)
    (acc : FVec F S512x512 .f32) : Prog (TpuEff nD τ sig (Elt F) Λ₀ .tc) (Σ' (arg1 : BitVec 32) (v2161 : FVec F S512x512 .f32) (v2180 : FVec F S128x256 .bf16) (v2199 : FVec F S128x256 .bf16) (v2218 : FVec F S128x256 .bf16), Vec F S128x128 .fp8e4m3) := do
  let r0 ← pair i arg2 arg4 0 27 (by decide)
  let r1 ← pair i arg2 arg4 1 27 (by decide)
  let r2 ← pair i arg2 arg4 2 27 (by decide)
  let w : Vec F S128x128 .fp8e4m3 ← Prog.lift (.load arg4 (tileRect 3 54 (by decide) (by decide)).toLoadRect (View.loadsAt_vmem h_S128x128))
  pure ⟨BitVec.ofNat 32 (i 1).val, acc, r0, r1, r2, w⟩

end Cert.KernelIdeal.Own

end
-- ==== Proof.StraightHead.lean ====
/-
  The printed quantising half is the loop over the groups.
-/
module

public import proofs.«01_k».proof.Proof.Printed

@[expose] public section

noncomputable section

namespace Cert.KernelIdeal.Own

open Idealize.ShloMosaic Idealize.SL.Sem
open Cert.KernelIdeal.Gen

variable {F : FTy → Type} [FloatOps F]

set_option maxRecDepth 65536 in
set_option maxHeartbeats 0 in
/-- The printed quantising half is the loop over the groups. -/
theorem head_eq (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) {α : Type} (k : Prog (TpuEff nD τ sig (Elt F) Λ₀ .tc) α) :
    headPrinted (F := F) i arg2 harg2 arg3 harg3 arg4 harg4 arg5 harg5 arg6 harg6 arg7 harg7 arg8 harg8 k = (quantise (F := F) arg3 arg6 harg6 arg7 arg8 harg8 >>= fun _ => k) := rfl

end Cert.KernelIdeal.Own

end
-- ==== Proof.StraightTail.lean ====
/-
  The printed multiplying half is the loop over the products.
-/
module

public import proofs.«01_k».proof.Proof.Printed

@[expose] public section

noncomputable section

namespace Cert.KernelIdeal.Own

open Idealize.ShloMosaic Idealize.SL.Sem
open Cert.KernelIdeal.Gen

variable {F : FTy → Type} [FloatOps F]

set_option maxRecDepth 65536 in
set_option maxHeartbeats 0 in
/-- The printed multiplying half but its end is the first twenty-seven products and the last one's tiles. -/
theorem tail_eq₁ (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) :
    (tailFirst (F := F) i arg2 harg2 arg3 harg3 arg4 harg4 arg5 harg5 arg6 harg6 arg7 harg7 arg8 harg8 >>= tailRest i arg2 harg2 arg3 harg3 arg4 harg4 arg5 harg5 arg6 harg6 arg7 harg7 arg8 harg8)
      = ((chunk i arg2 arg4 arg8 0 (by decide) >>= chunks i arg2 arg4 arg8 26 (by decide)) >>= lastPairs i arg2 arg4) := rfl

/-- The printed multiplying half is the loop over the products. -/
theorem tail_eq (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) :
    (tailFirst (F := F) i arg2 harg2 arg3 harg3 arg4 harg4 arg5 harg5 arg6 harg6 arg7 harg7 arg8 harg8 >>= tailRest i arg2 harg2 arg3 harg3 arg4 harg4 arg5 harg5 arg6 harg6 arg7 harg7 arg8 harg8 >>= tailLast i arg2 harg2 arg3 harg3 arg4 harg4 arg5 harg5 arg6 harg6 arg7 harg7 arg8 harg8) = product (F := F) i arg2 arg4 arg5 harg5 arg8 := by
  rw [tail_eq₁, bind_assoc, bind_assoc]
  unfold product
  refine congrArg _ (funext fun y => congrArg _ (funext fun acc => ?_))
  rfl

end Cert.KernelIdeal.Own

end
-- ==== Proof.Straight.lean ====
/-
  The printed body is the two loops one after the other, the first only where the conditional is taken.
-/
module

public import proofs.«01_k».proof.Proof.StraightHead
public import proofs.«01_k».proof.Proof.StraightTail

@[expose] public section

noncomputable section

namespace Cert.KernelIdeal.Own

open Idealize.ShloMosaic Idealize.SL.Sem
open Cert.KernelIdeal.Gen

variable {F : FTy → Type} [FloatOps F]

set_option maxRecDepth 65536 in
/-- The printed body where the conditional is taken: its two halves. -/
theorem printed_pos (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) (h : k0_cond1 i = 1#1) :
    cc0_fp8_linear (F := F) i arg2 harg2 arg3 harg3 arg4 harg4 arg5 harg5 arg6 harg6 arg7 harg7 arg8 harg8 = (headPrinted i arg2 harg2 arg3 harg3 arg4 harg4 arg5 harg5 arg6 harg6 arg7 harg7 arg8 harg8 (tailFirst i arg2 harg2 arg3 harg3 arg4 harg4 arg5 harg5 arg6 harg6 arg7 harg7 arg8 harg8) >>= tailRest i arg2 harg2 arg3 harg3 arg4 harg4 arg5 harg5 arg6 harg6 arg7 harg7 arg8 harg8 >>= tailLast i arg2 harg2 arg3 harg3 arg4 harg4 arg5 harg5 arg6 harg6 arg7 harg7 arg8 harg8) := by
  unfold cc0_fp8_linear k0_part162 k0_part105
  generalize instDecidableEqBitVec (k0_cond1 i) 1#1 = d
  cases d with
  | isTrue _ => rfl
  | isFalse h' => exact absurd h h'

set_option maxRecDepth 65536 in
/-- The printed body where it is not: its second half. -/
theorem printed_neg (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) (h : ¬ k0_cond1 i = 1#1) :
    cc0_fp8_linear (F := F) i arg2 harg2 arg3 harg3 arg4 harg4 arg5 harg5 arg6 harg6 arg7 harg7 arg8 harg8 = (tailFirst i arg2 harg2 arg3 harg3 arg4 harg4 arg5 harg5 arg6 harg6 arg7 harg7 arg8 harg8 >>= tailRest i arg2 harg2 arg3 harg3 arg4 harg4 arg5 harg5 arg6 harg6 arg7 harg7 arg8 harg8 >>= tailLast i arg2 harg2 arg3 harg3 arg4 harg4 arg5 harg5 arg6 harg6 arg7 harg7 arg8 harg8) := by
  unfold cc0_fp8_linear k0_part162 k0_part105
  generalize instDecidableEqBitVec (k0_cond1 i) 1#1 = d
  cases d with
  | isTrue h' => exact absurd h' h
  | isFalse _ => rfl

/-- The printed body is the two loops, where the conditional is taken. -/
theorem body_pos (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) (h : k0_cond1 i = 1#1) :
    cc0_fp8_linear (F := F) i arg2 harg2 arg3 harg3 arg4 harg4 arg5 harg5 arg6 harg6 arg7 harg7 arg8 harg8
      = (quantise (F := F) arg3 arg6 harg6 arg7 arg8 harg8 >>= fun _ => product (F := F) i arg2 arg4 arg5 harg5 arg8) := by
  rw [printed_pos i arg2 harg2 arg3 harg3 arg4 harg4 arg5 harg5 arg6 harg6 arg7 harg7 arg8 harg8 h, head_eq, bind_assoc, bind_assoc, ← tail_eq i arg2 harg2 arg3 harg3 arg4 harg4 arg5 harg5 arg6 harg6 arg7 harg7 arg8 harg8, bind_assoc]

/-- The printed body is the second loop, where it is not. -/
theorem body_neg (i : grid0.Coords) (arg2 : Memref sig .tc .smem S64x56 .f32) (harg2 : arg2.IsWhole) (arg3 : Memref sig .tc .vmem S512x7168 .bf16) (harg3 : arg3.IsWhole) (arg4 : Memref sig .tc .vmem S512x7168 .fp8e4m3) (harg4 : arg4.IsWhole) (arg5 : Memref sig .tc .vmem S512x512 .bf16) (harg5 : arg5.IsWhole) (arg6 : Memref sig .tc .vmem S512x7168 .fp8e4m3) (harg6 : arg6.IsWhole) (arg7 : Memref sig .tc .vmem S512x56 .f32) (harg7 : arg7.IsWhole) (arg8 : Memref sig .tc .vmem S512x7168 .bf16) (harg8 : arg8.IsWhole) (h : ¬ k0_cond1 i = 1#1) :
    cc0_fp8_linear (F := F) i arg2 harg2 arg3 harg3 arg4 harg4 arg5 harg5 arg6 harg6 arg7 harg7 arg8 harg8 = product (F := F) i arg2 arg4 arg5 harg5 arg8 := by
  rw [printed_neg i arg2 harg2 arg3 harg3 arg4 harg4 arg5 harg5 arg6 harg6 arg7 harg7 arg8 harg8 h, tail_eq]

end Cert.KernelIdeal.Own

end
-- ==== Proof.Steps.lean ====
/-
  Loads and stores stated of what a memref reads: a load returns the elements its rectangle names; a store leaves its
  payload on the rectangle and the old contents off it.
-/
module

public import proofs.«01_k».proof.Proof.Gen.KernelIdeal.Frame
public import Idealize.ShloMosaic.Lib.Writes

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (E : Set ℕ)

/-- A program that only returns is at its postcondition. -/
theorem pure_wp {α : Type} (a : α) (K : α → sProp 𝕄) :
    K a ⊢ wp frame (wpE (defs₀ (F := F)) Variants.none c none) E (pure a : Prog (TpuEff nD τ sig (Elt F) Λ₀ .tc) α) K := by
  show K a ⊢ wp frame (wpE (defs₀ (F := F)) Variants.none c none) E (.ret a) K
  rw [wp_ret]
  iintro H
  imodintro
  iexact H

/-- An index of a rectangle of stride one, placed: the offset plus the index. -/
theorem emb_val {s : Shape} (off size : Fin s.rank → Nat) (inb) (j : (Rect.unit off size inb).shape.Idx) (a : Fin s.rank) :
    ((Rect.unit off size inb).emb j a).val = off a + (j a).val := by
  show off a + 1 * (j a).val = _
  omega

/-- A load of a rectangle returns the memref's contents there. -/
theorem owns_load {cs : CoreSpace} {s : Shape} {e : EltTy} (M : Memref sig .tc cs s e) (r : Rect s)
    (hl : M.view.LoadsAt r.toLoadRect) (q : PosShare TreeShare) (X : s.Idx → Elt F e) (K : (r.shape.Idx → Elt F e) → sProp 𝕄) :
    iprop(owns (c : Thread nD τ) M q X ∗ (owns (c : Thread nD τ) M q X -∗ K (fun x => X (r.emb x))))
      ⊢ wp frame (wpE (defs₀ (F := F)) Variants.none c none) E
          (Prog.lift (.load M r.toLoadRect hl) : Prog (TpuEff nD τ sig (Elt F) Λ₀ .tc) (r.shape.Idx → Elt F e)) K := by
  unfold owns
  iintro ⟨⟨%f, %hf, H⟩, Hk⟩
  iapply (wp_load_rect (defs := defs₀ (F := F)) Variants.none (c : Thread nD τ) none E (Q := K) (m := M) (r := r) (hl := hl)
    (k := .ret) (S := M.view.set) (q := q) (f := f) (View.set_slice_subset M.view r)) $$ H
  iintro H
  rw [wp_ret]
  imodintro
  rw [show ((M.access r).read (Elt F) f : r.shape.Idx → Elt F e) = fun x => X (r.emb x) from by rw [← hf]; rfl]
  iapply Hk
  iexists f
  isplitr; · ipureintro; exact hf
  iexact H

/-- A scalar load returns the memref's contents at the one element its rectangle names. -/
theorem owns_smemLoad {s : Shape} {e : EltTy} (M : Memref sig .tc .smem s e) (r : Rect s) (h1 : r.shape.numel = 1) (hp : e.packing = 1)
    (q : PosShare TreeShare) (X : s.Idx → Elt F e) (y : s.Idx) (hy : ∀ x, r.emb x = y) (K : Elt F e → sProp 𝕄) :
    iprop(owns (c : Thread nD τ) M q X ∗ (owns (c : Thread nD τ) M q X -∗ K (X y)))
      ⊢ wp frame (wpE (defs₀ (F := F)) Variants.none c none) E
          (smemLoad M r h1 hp : Prog (TpuEff nD τ sig (Elt F) Λ₀ .tc) (Elt F e)) K := by
  unfold owns smemLoad
  iintro ⟨⟨%f, %hf, H⟩, Hk⟩
  iapply (wp_smemLoadElt (defs := defs₀ (F := F)) Variants.none (c : Thread nD τ) none E (Q := K) (m := M) (r := r)
    (k := .ret) (S := M.view.set) (q := q) (f := f) (View.set_slice_subset M.view r)) $$ H
  iintro H
  rw [wp_ret]
  imodintro
  rw [show ((M.access r).read (Elt F) f (Shape.Idx.first (h1.symm ▸ Nat.one_pos)) : Elt F e) = X y from by
    rw [← hf, ← hy (Shape.Idx.first (h1.symm ▸ Nat.one_pos))]; rfl]
  iapply Hk
  iexists f
  isplitr; · ipureintro; exact hf
  iexact H

/-- A store leaves its payload on its rectangle and the old contents elsewhere. -/
theorem owns_store {cs : CoreSpace} {s : Shape} {e : EltTy} (M : Memref sig .tc cs s e) (r : Rect s) (w : r.shape.Idx → Elt F e)
    (hx : (M.access r).Stores Finset.univ) (hm : Finset.univ = Finset.univ ∨ ∀ a, r.stride a = 1)
    (X : s.Idx → Elt F e) (K : PUnit → sProp 𝕄) :
    iprop(owns (c : Thread nD τ) M fullShare X
        ∗ (∀ X', ⌜(∀ x, X' (r.emb x) = w x) ∧ ∀ y, y ∉ r.set → X' y = X y⌝ -∗ owns (c : Thread nD τ) M fullShare X' -∗ K ⟨⟩))
      ⊢ wp frame (wpE (defs₀ (F := F)) Variants.none c none) E
          (Prog.lift (.store M r w Finset.univ hx hm) : Prog (TpuEff nD τ sig (Elt F) Λ₀ .tc) PUnit) K := by
  unfold owns
  iintro ⟨⟨%f, %hf, H⟩, Hk⟩
  iapply (wp_store (defs := defs₀ (F := F)) Variants.none (c : Thread nD τ) none E (Q := K) (m := M) (r := r) (w := w) (Mk := Finset.univ)
    (hx := hx) (hm := hm) (k := .ret) (S := M.view.set) (f := f) (by rw [View.setOn_univ]; exact View.set_slice_subset M.view r)) $$ H
  iintro H
  rw [wp_ret]
  imodintro
  iapply Hk $$ %(M.view.read (Elt F) ((M.access r).write (Elt F) f w Finset.univ))
  · ipureintro
    refine ⟨fun x => View.read_slice_write_emb r f w (Finset.mem_univ x), fun y hy => ?_⟩
    rw [← hf]
    exact View.read_slice_write_of_not_mem r f w Finset.univ (by rwa [Rect.map_emb_univ])
  · iexists _
    isplitr; · ipureintro; rfl
    iexact H

end Cert.KernelIdeal.Own

end
-- ==== Proof.Quantise.lean ====
/-
  What the quantising loop leaves: each group of columns at its codes and at the operand the products read, and the table
  of scales filled column by column — for any block of activations.
-/
module

public import proofs.«01_k».proof.Proof.Loops
public import proofs.«01_k».proof.Proof.Steps
public import Idealize.ShloMosaic.Lib.Pointwise

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Group `g` of a block of activations. -/
def groupOf (g : Nat) (h : g < 56) (x : FVec F S512x7168 .bf16) : FVec F S512x128 .bf16 := fun y => x ((groupRect g h).emb y)

theorem lane_lt (y : S512x7168.Idx) : (y 1).val / 128 < 56 := by
  have h : (y 1).val < 7168 := (y 1).isLt
  omega

/-- A function of a group, applied to every group of a block. -/
def byGroup {e : EltTy} (f : FVec F S512x128 .bf16 → S512x128.Idx → Elt F e) (x : FVec F S512x7168 .bf16) : S512x7168.Idx → Elt F e := fun y =>
  f (groupOf ((y 1).val / 128) (lane_lt y) x) (ix2 (y 0) ⟨(y 1).val % 128, Nat.mod_lt _ (by decide)⟩)

/-- The codes of a block. -/
def blockCodes (x : FVec F S512x7168 .bf16) : FVec F S512x7168 .fp8e4m3 := byGroup (e := .fp8e4m3) groupCodes x

/-- The operand the products read, of a block. -/
def blockX (x : FVec F S512x7168 .bf16) : FVec F S512x7168 .bf16 := byGroup (e := .bf16) groupX x

/-- The table of scales after the first `n` groups. -/
def scales (x : FVec F S512x7168 .bf16) : (n : Nat) → n ≤ 56 → FVec F S512x56 .f32
  | 0, _ => broadcast S512x56 (Scalar.ofBits .f32 0x00000000#32)
  | n + 1, h => putScale (BitVec.ofNat 32 n) (groupScale (groupOf n h x)) (scales x n (Nat.le_of_succ_le h))

theorem scales_congr (x : FVec F S512x7168 .bf16) (a b : Nat) (e : a = b) (hb : b ≤ 56) : scales x a (e.le.trans hb) = scales x b hb := by
  subst e; rfl

theorem emb_row (g : Nat) (h : g < 56) (y : (groupRect g h).shape.Idx) : ((groupRect g h).emb y 0).val = (y 0).val :=
  (emb_val _ _ _ _ _).trans (Nat.zero_add _)

theorem emb_lane (g : Nat) (h : g < 56) (y : (groupRect g h).shape.Idx) : ((groupRect g h).emb y 1).val = 128 * g + (y 1).val :=
  emb_val _ _ _ _ _

/-- A lane of group `g` is one the group's rectangle names. -/
theorem exists_emb (g : Nat) (h : g < 56) (y : S512x7168.Idx) (hy : (y 1).val / 128 = g) :
    (groupRect g h).emb (ix2 (y 0) ⟨(y 1).val % 128, Nat.mod_lt _ (by decide)⟩ : S512x128.Idx) = y := by
  funext a
  refine Fin.ext ?_
  match a with
  | ⟨0, _⟩ => exact emb_row g h _
  | ⟨1, _⟩ =>
    refine (emb_lane g h _).trans ?_
    show 128 * g + (y 1).val % 128 = (y 1).val
    omega

theorem byGroup_of {e : EltTy} (f : FVec F S512x128 .bf16 → S512x128.Idx → Elt F e) (x : FVec F S512x7168 .bf16) (g : Nat) (h : g < 56)
    (y : S512x7168.Idx) (hy : (y 1).val / 128 = g) :
    byGroup f x y = f (groupOf g h x) (ix2 (y 0) ⟨(y 1).val % 128, Nat.mod_lt _ (by decide)⟩) := by
  subst hy; rfl

theorem not_mem_group (g : Nat) (h : g < 56) (y : S512x7168.Idx) (hy : (y 1).val < 128 * g) : y ∉ (groupRect g h).set := by
  rw [← Rect.map_emb_univ]
  intro hm
  obtain ⟨z, -, rfl⟩ := Finset.mem_map.mp hm
  rw [emb_lane g h z] at hy
  omega

/-- One store of a group over contents right on the groups before it leaves contents right on it too. -/
theorem extends_of_store {e : EltTy} (f : FVec F S512x128 .bf16 → S512x128.Idx → Elt F e) (x : FVec F S512x7168 .bf16) (g : Nat) (h : g < 56)
    (X X' : S512x7168.Idx → Elt F e) (hX : ∀ y, (y 1).val < 128 * g → X y = byGroup f x y)
    (h1 : ∀ z, X' ((groupRect g h).emb z) = f (groupOf g h x) z) (h2 : ∀ y, y ∉ (groupRect g h).set → X' y = X y) :
    ∀ y, (y 1).val < 128 * (g + 1) → X' y = byGroup f x y := by
  intro y hy
  by_cases hg : (y 1).val < 128 * g
  · rw [h2 y (not_mem_group g h y hg), hX y hg]
  · have hd : (y 1).val / 128 = g := by omega
    rw [byGroup_of f x g h y hd, ← h1, exists_emb g h y hd]

variable (c : Dev nD) (E : Set ℕ)

/-- A load of group `g` returns it. -/
theorem load_group (g : Nat) (h : g < 56) (M : Memref sig .tc .vmem S512x7168 .bf16) (hl : M.view.LoadsAt (groupRect g h).toLoadRect)
    (x : FVec F S512x7168 .bf16) (K : FVec F S512x128 .bf16 → sProp 𝕄) :
    iprop(owns (c : Thread nD τ) M fullShare x ∗ (owns (c : Thread nD τ) M fullShare x -∗ K (groupOf g h x)))
      ⊢ wp frame (wpE (defs₀ (F := F)) Variants.none c none) E
          (Prog.lift (.load M (groupRect g h).toLoadRect hl) : Prog (TpuEff nD τ sig (Elt F) Λ₀ .tc) ((groupRect g h).shape.Idx → Elt F .bf16)) K :=
  owns_load c E M (groupRect g h) hl fullShare x K

/-- One group: from contents right on the groups before it, contents right on it too, and its scale filled in. -/
theorem group_wp (g : Nat) (h : g < 56) (arg3 : Memref sig .tc .vmem S512x7168 .bf16)
    (arg6 : Memref sig .tc .vmem S512x7168 .fp8e4m3) (harg6 : arg6.IsWhole) (arg8 : Memref sig .tc .vmem S512x7168 .bf16) (harg8 : arg8.IsWhole)
    (x : FVec F S512x7168 .bf16) (X6 : FVec F S512x7168 .fp8e4m3) (X8 : FVec F S512x7168 .bf16) (t : FVec F S512x56 .f32)
    (h6 : ∀ y, (y 1).val < 128 * g → X6 y = blockCodes x y) (h8 : ∀ y, (y 1).val < 128 * g → X8 y = blockX x y)
    (K : FVec F S512x56 .f32 → sProp 𝕄) :
    iprop(owns (c : Thread nD τ) arg3 fullShare x ∗ owns (c : Thread nD τ) arg6 fullShare X6 ∗ owns (c : Thread nD τ) arg8 fullShare X8
        ∗ (∀ X6' X8', ⌜(∀ y, (y 1).val < 128 * (g + 1) → X6' y = blockCodes x y) ∧ ∀ y, (y 1).val < 128 * (g + 1) → X8' y = blockX x y⌝
            -∗ owns (c : Thread nD τ) arg3 fullShare x -∗ owns (c : Thread nD τ) arg6 fullShare X6' -∗ owns (c : Thread nD τ) arg8 fullShare X8'
            -∗ K (putScale (BitVec.ofNat 32 g) (groupScale (groupOf g h x)) t)))
      ⊢ wp frame (wpE (defs₀ (F := F)) Variants.none c none) E (group (F := F) g h arg3 arg6 harg6 arg8 harg8 t) K := by
  unfold group
  simp only [wp_bind]
  iintro ⟨H3, H6, H8, Hk⟩
  iapply load_group c E g h arg3 _ x
  isplitl [H3]; · iexact H3
  iintro H3
  iapply owns_load c E arg6 (groupRect g h) _ fullShare X6
  isplitl [H6]; · iexact H6
  iintro H6
  iapply owns_store c E arg6 (groupRect g h)
  isplitl [H6]; · iexact H6
  iintro %X6' %e6 H6
  iapply owns_load c E arg8 (groupRect g h) _ fullShare X8
  isplitl [H8]; · iexact H8
  iintro H8
  iapply owns_store c E arg8 (groupRect g h)
  isplitl [H8]; · iexact H8
  iintro %X8' %e8 H8
  iapply pure_wp
  have e6' := extends_of_store (e := .fp8e4m3) groupCodes x g h X6 X6' h6 e6.1 e6.2
  have e8' := extends_of_store (e := .bf16) groupX x g h X8 X8' h8 e8.1 e8.2
  iapply Hk $$ %X6' %X8' %⟨e6', e8'⟩ H3 H6 H8

/-- All the groups from the `56 - n`-th on. -/
theorem groups_wp (arg3 : Memref sig .tc .vmem S512x7168 .bf16)
    (arg6 : Memref sig .tc .vmem S512x7168 .fp8e4m3) (harg6 : arg6.IsWhole) (arg8 : Memref sig .tc .vmem S512x7168 .bf16) (harg8 : arg8.IsWhole)
    (x : FVec F S512x7168 .bf16) (K : FVec F S512x56 .f32 → sProp 𝕄) (n : Nat) : ∀ (h : n ≤ 56)
    (X6 : FVec F S512x7168 .fp8e4m3) (X8 : FVec F S512x7168 .bf16) (t : FVec F S512x56 .f32)
    (_ : ∀ y, (y 1).val < 128 * (56 - n) → X6 y = blockCodes x y) (_ : ∀ y, (y 1).val < 128 * (56 - n) → X8 y = blockX x y)
    (_ : t = scales x (56 - n) (Nat.sub_le _ _)),
    iprop(owns (c : Thread nD τ) arg3 fullShare x ∗ owns (c : Thread nD τ) arg6 fullShare X6 ∗ owns (c : Thread nD τ) arg8 fullShare X8
        ∗ (owns (c : Thread nD τ) arg3 fullShare x -∗ owns (c : Thread nD τ) arg6 fullShare (blockCodes x)
            -∗ owns (c : Thread nD τ) arg8 fullShare (blockX x) -∗ K (scales x 56 (Nat.le_refl 56))))
      ⊢ wp frame (wpE (defs₀ (F := F)) Variants.none c none) E (groups (F := F) arg3 arg6 harg6 arg8 harg8 n h t) K := by
  induction n with
  | zero =>
    intro h X6 X8 t h6 h8 ht
    subst ht
    rw [show X6 = blockCodes x from funext fun y => h6 y (y 1).isLt, show X8 = blockX x from funext fun y => h8 y (y 1).isLt]
    iintro ⟨H3, H6, H8, Hk⟩
    rw [show groups (F := F) arg3 arg6 harg6 arg8 harg8 0 h (scales x (56 - 0) (Nat.sub_le _ _)) = pure (scales x 56 (Nat.le_refl 56)) from rfl]
    iapply pure_wp
    iapply Hk $$ H3 H6 H8
  | succ n ih =>
    intro h X6 X8 t h6 h8 ht
    have e : 55 - n + 1 = 56 - n := by omega
    rw [show groups (F := F) arg3 arg6 harg6 arg8 harg8 (n + 1) h t
      = (group (55 - n) (by omega) arg3 arg6 harg6 arg8 harg8 t >>= groups arg3 arg6 harg6 arg8 harg8 n (Nat.le_of_succ_le h)) from rfl, wp_bind]
    iintro ⟨H3, H6, H8, Hk⟩
    iapply group_wp c E (55 - n) _ arg3 arg6 harg6 arg8 harg8 x X6 X8 t
      (fun y hy => h6 y (by omega)) (fun y hy => h8 y (by omega))
    isplitl [H3]; · iexact H3
    isplitl [H6]; · iexact H6
    isplitl [H8]; · iexact H8
    iintro %X6' %X8' %e' H3 H6 H8
    iapply ih (Nat.le_of_succ_le h) X6' X8' _ (fun y hy => e'.1 y (by omega)) (fun y hy => e'.2 y (by omega)) (by
      subst ht
      rw [scales_congr x (56 - (n + 1)) (55 - n) (by omega)]
      exact (scales_congr x (56 - n) (55 - n + 1) e.symm (by omega)).symm)
    isplitl [H3]; · iexact H3
    isplitl [H6]; · iexact H6
    isplitl [H8]; · iexact H8
    iexact Hk

theorem whole56 (y : S512x56.Idx) : (Rect.unit (s := S512x56) ![0, 0] S512x56.size inb_S512x56_S512x56_0_0).emb y = y :=
  funext fun a => Fin.ext ((emb_val _ _ _ _ a).trans (by
    match a with
    | ⟨0, _⟩ => exact Nat.zero_add _
    | ⟨1, _⟩ => exact Nat.zero_add _))

/-- The quantising half: the block's codes, the block's scales, and the operand the products read. -/
theorem quantise_wp (arg3 : Memref sig .tc .vmem S512x7168 .bf16)
    (arg6 : Memref sig .tc .vmem S512x7168 .fp8e4m3) (harg6 : arg6.IsWhole) (arg7 : Memref sig .tc .vmem S512x56 .f32)
    (arg8 : Memref sig .tc .vmem S512x7168 .bf16) (harg8 : arg8.IsWhole)
    (x : FVec F S512x7168 .bf16) (K : PUnit → sProp 𝕄) :
    iprop(owns (c : Thread nD τ) arg3 fullShare x ∗ (∃ d, owns (c : Thread nD τ) arg6 fullShare d) ∗ (∃ d, owns (c : Thread nD τ) arg7 fullShare d)
        ∗ (∃ d, owns (c : Thread nD τ) arg8 fullShare d)
        ∗ (owns (c : Thread nD τ) arg3 fullShare x -∗ owns (c : Thread nD τ) arg6 fullShare (blockCodes x)
            -∗ owns (c : Thread nD τ) arg7 fullShare (scales x 56 (Nat.le_refl 56)) -∗ owns (c : Thread nD τ) arg8 fullShare (blockX x) -∗ K ⟨⟩))
      ⊢ wp frame (wpE (defs₀ (F := F)) Variants.none c none) E (quantise (F := F) arg3 arg6 harg6 arg7 arg8 harg8) K := by
  unfold quantise
  simp only [wp_bind]
  iintro ⟨H3, ⟨%X6, H6⟩, ⟨%X7, H7⟩, ⟨%X8, H8⟩, Hk⟩
  iapply groups_wp c E arg3 arg6 harg6 arg8 harg8 x _ 56 (Nat.le_refl 56) X6 X8 _
    (fun y hy => absurd hy (by omega)) (fun y hy => absurd hy (by omega)) rfl
  isplitl [H3]; · iexact H3
  isplitl [H6]; · iexact H6
  isplitl [H8]; · iexact H8
  iintro H3 H6 H8
  iapply owns_load c E arg7 _ _ fullShare X7
  isplitl [H7]; · iexact H7
  iintro H7
  iapply owns_store c E arg7
  isplitl [H7]; · iexact H7
  iintro %X7' %e7 H7
  iapply pure_wp
  rw [show X7' = scales x 56 (Nat.le_refl 56) from funext fun y => by rw [← congrArg X7' (whole56 y)]; exact e7.1 y]
  iapply Hk $$ H3 H6 H7 H8

end Cert.KernelIdeal.Own

end
-- ==== Proof.Product.lean ====
/-
  What the multiplying loop leaves: the block of results, as twenty-eight products of the stored operand by the scaled
  weights added up in order — for any operand, any block of weights and any table of their scales.
-/
module

public import proofs.«01_k».proof.Proof.Loops
public import proofs.«01_k».proof.Proof.Steps
public import Idealize.ShloMosaic.Lib.Pointwise

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- Tile `g` of the `b`-th 128 rows of a block of weights. -/
def tileOf (b : Fin 4) (g : Nat) (h : g < 56) (w : FVec F S512x7168 .fp8e4m3) : FVec F S128x128 .fp8e4m3 :=
  fun y => w ((tileRect b.val g b.isLt h).emb y)

/-- Where the scale of a tile stands, as an index of the table. -/
def wsIdx (i : grid0.Coords) (b : Fin 4) (g : Nat) (h : g < 56) : S64x56.Idx :=
  ix2 ⟨4 * (i 1).val + b.val, by have hi : (i 1).val < 16 := (i 1).isLt; have hb := b.isLt; omega⟩ ⟨g, h⟩

/-- A tile at its scale. -/
def tileVal (i : grid0.Coords) (ws : FVec F S64x56 .f32) (w : FVec F S512x7168 .fp8e4m3) (b : Fin 4) (g : Nat) (h : g < 56) : FVec F S128x128 .bf16 :=
  scaled (tileOf b g h w) (ws (wsIdx i b g h))

/-- Two tiles side by side. -/
def pairVal (i : grid0.Coords) (ws : FVec F S64x56 .f32) (w : FVec F S512x7168 .fp8e4m3) (b : Fin 4) (p : Nat) (h : p < 28) : FVec F S128x256 .bf16 :=
  concatenate S128x256 1 [⟨S128x128, tileVal i ws w b (2 * p) (by omega)⟩, ⟨S128x128, tileVal i ws w b (2 * p + 1) (by omega)⟩]
    concatenates_S128x128_S128x128_S128x256_d1

/-- The product's columns of the operand. -/
def chunkOf (p : Nat) (h : p < 28) (x : FVec F S512x7168 .bf16) : FVec F S512x256 .bf16 := fun y => x ((chunkRect p h).emb y)

/-- One product. -/
def chunkVal (i : grid0.Coords) (ws : FVec F S64x56 .f32) (w : FVec F S512x7168 .fp8e4m3) (x : FVec F S512x7168 .bf16) (p : Nat) (h : p < 28) :
    FVec F S512x512 .f32 :=
  matmul dot_S512x256_S512x256_S512x512_1_1_0_0_n_n none (chunkOf p h x)
    (concatenate S512x256 0 [⟨S128x256, pairVal i ws w 0 p h⟩, ⟨S128x256, pairVal i ws w 1 p h⟩, ⟨S128x256, pairVal i ws w 2 p h⟩, ⟨S128x256, pairVal i ws w 3 p h⟩]
      concatenates_S128x256_S128x256_S128x256_S128x256_S512x256_d0)
    (constant S512x512 .f32 0x00000000#32)

/-- The first `n + 1` products, added up in order. -/
def sumTo (i : grid0.Coords) (ws : FVec F S64x56 .f32) (w : FVec F S512x7168 .fp8e4m3) (x : FVec F S512x7168 .bf16) :
    (n : Nat) → n < 28 → FVec F S512x512 .f32
  | 0, h => chunkVal i ws w x 0 h
  | n + 1, h => addf (sumTo i ws w x n (Nat.lt_of_succ_lt h)) (chunkVal i ws w x (n + 1) h)

/-- The block of results. -/
def blockY (i : grid0.Coords) (ws : FVec F S64x56 .f32) (w : FVec F S512x7168 .fp8e4m3) (x : FVec F S512x7168 .bf16) : FVec F S512x512 .bf16 :=
  truncf .bf16 (sumTo i ws w x 27 (by decide)) bitsLt_bf16_f32

theorem sumTo_congr (i : grid0.Coords) (ws : FVec F S64x56 .f32) (w : FVec F S512x7168 .fp8e4m3) (x : FVec F S512x7168 .bf16) (a b : Nat) (e : a = b)
    (hb : b < 28) : sumTo i ws w x a (e.trans_lt hb) = sumTo i ws w x b hb := by
  subst e; rfl

variable (c : Dev nD) (E : Set ℕ)

/-- A load of a tile returns it. -/
theorem load_tile (b : Fin 4) (g : Nat) (h : g < 56) (M : Memref sig .tc .vmem S512x7168 .fp8e4m3)
    (hl : M.view.LoadsAt (tileRect b.val g b.isLt h).toLoadRect) (w : FVec F S512x7168 .fp8e4m3) (K : FVec F S128x128 .fp8e4m3 → sProp 𝕄) :
    iprop(owns (c : Thread nD τ) M fullShare w ∗ (owns (c : Thread nD τ) M fullShare w -∗ K (tileOf b g h w)))
      ⊢ wp frame (wpE (defs₀ (F := F)) Variants.none c none) E
          (Prog.lift (.load M (tileRect b.val g b.isLt h).toLoadRect hl) : Prog (TpuEff nD τ sig (Elt F) Λ₀ .tc) ((tileRect b.val g b.isLt h).shape.Idx → Elt F .fp8e4m3)) K :=
  owns_load c E M (tileRect b.val g b.isLt h) hl fullShare w K

/-- A load of a product's columns returns them. -/
theorem load_chunk (p : Nat) (h : p < 28) (M : Memref sig .tc .vmem S512x7168 .bf16)
    (hl : M.view.LoadsAt (chunkRect p h).toLoadRect) (x : FVec F S512x7168 .bf16) (K : FVec F S512x256 .bf16 → sProp 𝕄) :
    iprop(owns (c : Thread nD τ) M fullShare x ∗ (owns (c : Thread nD τ) M fullShare x -∗ K (chunkOf p h x)))
      ⊢ wp frame (wpE (defs₀ (F := F)) Variants.none c none) E
          (Prog.lift (.load M (chunkRect p h).toLoadRect hl) : Prog (TpuEff nD τ sig (Elt F) Λ₀ .tc) ((chunkRect p h).shape.Idx → Elt F .bf16)) K :=
  owns_load c E M (chunkRect p h) hl fullShare x K

theorem ws_emb (i : grid0.Coords) (b : Fin 4) (g : Nat) (h : g < 56)
    (y : (Rect.unit (s := S64x56) (wsOff i (BitVec.ofNat 32 b.val) g) S1x1.size (ws_inb i b h)).shape.Idx) :
    (Rect.unit (s := S64x56) (wsOff i (BitVec.ofNat 32 b.val) g) S1x1.size (ws_inb i b h)).emb y = wsIdx i b g h :=
  funext fun a => Fin.ext ((emb_val _ _ _ y a).trans (by
    refine (congrArg (· + (y a).val) (congrFun (wsOff_eq i b g) a)).trans ?_
    match a with
    | ⟨0, _⟩ =>
      have hy : (y 0).val < 1 := (y 0).isLt
      show 4 * (i 1).val + b.val + (y 0).val = 4 * (i 1).val + b.val
      omega
    | ⟨1, _⟩ =>
      have hy : (y 1).val < 1 := (y 1).isLt
      show g + (y 1).val = g
      omega))

section Reads

variable (i : grid0.Coords) (arg2 : Memref sig .tc .smem S64x56 .f32) (arg4 : Memref sig .tc .vmem S512x7168 .fp8e4m3)
  (ws : FVec F S64x56 .f32) (w : FVec F S512x7168 .fp8e4m3)

/-- A tile and its scale, read: the tile at its scale. -/
theorem tile_wp (b : Fin 4) (g : Nat) (h : g < 56) (K : FVec F S128x128 .bf16 → sProp 𝕄) :
    iprop(owns (c : Thread nD τ) arg2 fullShare ws ∗ owns (c : Thread nD τ) arg4 fullShare w
        ∗ (owns (c : Thread nD τ) arg2 fullShare ws -∗ owns (c : Thread nD τ) arg4 fullShare w -∗ K (tileVal i ws w b g h)))
      ⊢ wp frame (wpE (defs₀ (F := F)) Variants.none c none) E (tile (F := F) i arg2 arg4 b g h) K := by
  unfold tile tileVal
  simp only [wp_bind]
  iintro ⟨H2, H4, Hk⟩
  iapply load_tile c E b g h arg4 _ w
  isplitl [H4]; · iexact H4
  iintro H4
  iapply owns_smemLoad c E arg2 _ _ _ fullShare ws (wsIdx i b g h) (ws_emb i b g h)
  isplitl [H2]; · iexact H2
  iintro H2
  iapply pure_wp
  iapply Hk $$ H2 H4

/-- Two tiles, read. -/
theorem pair_wp (b : Fin 4) (p : Nat) (h : p < 28) (K : FVec F S128x256 .bf16 → sProp 𝕄) :
    iprop(owns (c : Thread nD τ) arg2 fullShare ws ∗ owns (c : Thread nD τ) arg4 fullShare w
        ∗ (owns (c : Thread nD τ) arg2 fullShare ws -∗ owns (c : Thread nD τ) arg4 fullShare w -∗ K (pairVal i ws w b p h)))
      ⊢ wp frame (wpE (defs₀ (F := F)) Variants.none c none) E (pair (F := F) i arg2 arg4 b p h) K := by
  unfold pair pairVal
  simp only [wp_bind]
  iintro ⟨H2, H4, Hk⟩
  iapply tile_wp c E i arg2 arg4 ws w b (2 * p)
  isplitl [H2]; · iexact H2
  isplitl [H4]; · iexact H4
  iintro H2 H4
  iapply tile_wp c E i arg2 arg4 ws w b (2 * p + 1)
  isplitl [H2]; · iexact H2
  isplitl [H4]; · iexact H4
  iintro H2 H4
  iapply pure_wp
  iapply Hk $$ H2 H4

variable (arg8 : Memref sig .tc .vmem S512x7168 .bf16) (x : FVec F S512x7168 .bf16)

/-- One product, read and multiplied. -/
theorem chunk_wp (p : Nat) (h : p < 28) (K : FVec F S512x512 .f32 → sProp 𝕄) :
    iprop(owns (c : Thread nD τ) arg2 fullShare ws ∗ owns (c : Thread nD τ) arg4 fullShare w ∗ owns (c : Thread nD τ) arg8 fullShare x
        ∗ (owns (c : Thread nD τ) arg2 fullShare ws -∗ owns (c : Thread nD τ) arg4 fullShare w -∗ owns (c : Thread nD τ) arg8 fullShare x
            -∗ K (chunkVal i ws w x p h)))
      ⊢ wp frame (wpE (defs₀ (F := F)) Variants.none c none) E (chunk (F := F) i arg2 arg4 arg8 p h) K := by
  unfold chunk chunkVal
  simp only [wp_bind]
  iintro ⟨H2, H4, H8, Hk⟩
  iapply pair_wp c E i arg2 arg4 ws w 0 p h
  isplitl [H2]; · iexact H2
  isplitl [H4]; · iexact H4
  iintro H2 H4
  iapply pair_wp c E i arg2 arg4 ws w 1 p h
  isplitl [H2]; · iexact H2
  isplitl [H4]; · iexact H4
  iintro H2 H4
  iapply pair_wp c E i arg2 arg4 ws w 2 p h
  isplitl [H2]; · iexact H2
  isplitl [H4]; · iexact H4
  iintro H2 H4
  iapply pair_wp c E i arg2 arg4 ws w 3 p h
  isplitl [H2]; · iexact H2
  isplitl [H4]; · iexact H4
  iintro H2 H4
  iapply load_chunk c E p h arg8 _ x
  isplitl [H8]; · iexact H8
  iintro H8
  iapply pure_wp
  iapply Hk $$ H2 H4 H8

/-- The products up to the twenty-seventh, from the sum of those before. -/
theorem chunks_wp (K : FVec F S512x512 .f32 → sProp 𝕄) (n : Nat) : ∀ (h : n < 27),
    iprop(owns (c : Thread nD τ) arg2 fullShare ws ∗ owns (c : Thread nD τ) arg4 fullShare w ∗ owns (c : Thread nD τ) arg8 fullShare x
        ∗ (owns (c : Thread nD τ) arg2 fullShare ws -∗ owns (c : Thread nD τ) arg4 fullShare w -∗ owns (c : Thread nD τ) arg8 fullShare x
            -∗ K (sumTo i ws w x 26 (by decide))))
      ⊢ wp frame (wpE (defs₀ (F := F)) Variants.none c none) E (chunks (F := F) i arg2 arg4 arg8 n h (sumTo i ws w x (26 - n) (by omega))) K := by
  induction n with
  | zero =>
    intro h
    iintro ⟨H2, H4, H8, Hk⟩
    rw [show chunks (F := F) i arg2 arg4 arg8 0 h (sumTo i ws w x (26 - 0) (by omega)) = pure (sumTo i ws w x 26 (by decide)) from rfl]
    iapply pure_wp
    iapply Hk $$ H2 H4 H8
  | succ n ih =>
    intro h
    rw [show chunks (F := F) i arg2 arg4 arg8 (n + 1) h (sumTo i ws w x (26 - (n + 1)) (by omega))
      = (chunk i arg2 arg4 arg8 (26 - n) (by omega) >>= fun y => chunks i arg2 arg4 arg8 n (Nat.lt_of_succ_lt h)
          (addf (sumTo i ws w x (26 - (n + 1)) (by omega)) y)) from rfl, wp_bind]
    iintro ⟨H2, H4, H8, Hk⟩
    iapply chunk_wp c E i arg2 arg4 ws w arg8 x (26 - n)
    isplitl [H2]; · iexact H2
    isplitl [H4]; · iexact H4
    isplitl [H8]; · iexact H8
    iintro H2 H4 H8
    rw [show addf (sumTo i ws w x (26 - (n + 1)) (by omega)) (chunkVal i ws w x (26 - n) (by omega)) = sumTo i ws w x (26 - n) (by omega) from by
      have key : ∀ (k : Nat) (hk : k < 28) (_ : k = 26 - (n + 1) + 1),
          addf (sumTo i ws w x (26 - (n + 1)) (by omega)) (chunkVal i ws w x k hk) = sumTo i ws w x k hk := by
        intro k hk e; subst e; rfl
      exact key (26 - n) (by omega) (by omega)]
    iapply ih (Nat.lt_of_succ_lt h)
    isplitl [H2]; · iexact H2
    isplitl [H4]; · iexact H4
    isplitl [H8]; · iexact H8
    iexact Hk

theorem whole512 (y : S512x512.Idx) : (Rect.unit (s := S512x512) ![0, 0] S512x512.size inb_S512x512_S512x512_0_0).emb y = y :=
  funext fun a => Fin.ext ((emb_val _ _ _ _ a).trans (by
    match a with
    | ⟨0, _⟩ => exact Nat.zero_add _
    | ⟨1, _⟩ => exact Nat.zero_add _))

/-- The multiplying half: the block of results. -/
theorem product_wp (arg5 : Memref sig .tc .vmem S512x512 .bf16) (harg5 : arg5.IsWhole) (K : PUnit → sProp 𝕄) :
    iprop(owns (c : Thread nD τ) arg2 fullShare ws ∗ owns (c : Thread nD τ) arg4 fullShare w ∗ owns (c : Thread nD τ) arg8 fullShare x
        ∗ (∃ d, owns (c : Thread nD τ) arg5 fullShare d)
        ∗ (owns (c : Thread nD τ) arg2 fullShare ws -∗ owns (c : Thread nD τ) arg4 fullShare w -∗ owns (c : Thread nD τ) arg8 fullShare x
            -∗ owns (c : Thread nD τ) arg5 fullShare (blockY i ws w x) -∗ K ⟨⟩))
      ⊢ wp frame (wpE (defs₀ (F := F)) Variants.none c none) E (product (F := F) i arg2 arg4 arg5 harg5 arg8) K := by
  unfold product
  simp only [wp_bind]
  iintro ⟨H2, H4, H8, ⟨%X5, H5⟩, Hk⟩
  iapply chunk_wp c E i arg2 arg4 ws w arg8 x 0
  isplitl [H2]; · iexact H2
  isplitl [H4]; · iexact H4
  isplitl [H8]; · iexact H8
  iintro H2 H4 H8
  iapply chunks_wp c E i arg2 arg4 ws w arg8 x _ 26 (by decide)
  isplitl [H2]; · iexact H2
  isplitl [H4]; · iexact H4
  isplitl [H8]; · iexact H8
  iintro H2 H4 H8
  iapply chunk_wp c E i arg2 arg4 ws w arg8 x 27
  isplitl [H2]; · iexact H2
  isplitl [H4]; · iexact H4
  isplitl [H8]; · iexact H8
  iintro H2 H4 H8
  iapply owns_load c E arg5 _ _ fullShare X5
  isplitl [H5]; · iexact H5
  iintro H5
  iapply owns_store c E arg5
  isplitl [H5]; · iexact H5
  iintro %X5' %e5 H5
  iapply pure_wp
  rw [show X5' = blockY i ws w x from funext fun y => by rw [← congrArg X5' (whole512 y)]; exact e5.1 y]
  iapply Hk $$ H2 H4 H8 H5

end Reads

end Cert.KernelIdeal.Own

end
-- ==== Proof.Run.lean ====
/-
  The run of the kernel, with what every window and the scratch buffer hold named at every point, and the frame.
-/
module

public import proofs.«01_k».proof.Proof.Points
public import proofs.«01_k».proof.Proof.Straight
public import proofs.«01_k».proof.Proof.Quantise
public import proofs.«01_k».proof.Proof.Product
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of activations at a point. -/
def xAt (c : Dev nD) (t : Fin cfg0.N) : FVec F S512x7168 .bf16 := iblk m c 1 t

/-- The block of activations is the same at every point of a row of the grid. -/
theorem xAt_prev (c : Dev nD) (t t' : Fin cfg0.N) (h : t'.val / 16 = t.val / 16) : xAt m c t' = xAt m c t := by
  unfold xAt
  rw [iblk_x, iblk_x]
  funext y
  generalize V m c main_v0 = f
  exact congrArg f (congrArg (fun r => ix2 r (y 1)) (Fin.ext (congrArg (fun q => 512 * q + (y 0).val) h)))

/-- The scratch buffer. -/
abbrev scratch : Memref sig .tc .vmem S512x7168 .bf16 := Memref.whole cc0_scratch0

/-- What the scratch buffer holds before point `n`: anything at the start of a row of the grid, else the operand of
    the row's block of activations. -/
def keeps (c : Dev nD) (n : Nat) (h : n ≤ cfg0.N) : sProp 𝕄 :=
  if h0 : n % 16 = 0 then iprop(∃ d, owns (c : Thread nD τ) scratch fullShare d)
  else owns (c : Thread nD τ) scratch fullShare (blockX (xAt m c ⟨n - 1, by omega⟩))

def inv (c : Dev nD) (n : Nat) (h : n ≤ cfg0.N) : sProp 𝕄 := iprop(keeps m c n h ∗ (∃ r, prngReg c r))

/-- What the windows, the scratch buffer and the arrays hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockY (grid0.coords t) (iblk m c 0 t) (iblk m c 2 t) (blockX (xAt m c t))
    | ⟨4, _⟩ => blockCodes (xAt m c t)
    | ⟨5, _⟩ => scales (xAt m c t) 56 (Nat.le_refl 56)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = blockY (grid0.coords t) (iblk m c 0 t) (iblk m c 2 t) (blockX (xAt m c t)) := by dsimp only [dats]
theorem after4 (c : Dev nD) (t : Fin cfg0.N) : (dats m 0 c).after 4 t = blockCodes (xAt m c t) := by dsimp only [dats]
theorem after5 (c : Dev nD) (t : Fin cfg0.N) : (dats m 0 c).after 5 t = scales (xAt m c t) 56 (Nat.le_refl 56) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem idle4 (t : Fin cfg0.N) : cfg0.idle 4 (grid0.coords t) = !(k0_cond1 (grid0.coords t) == 1#1) := rfl
theorem idle5 (t : Fin cfg0.N) : cfg0.idle 5 (grid0.coords t) = !(k0_cond1 (grid0.coords t) == 1#1) := rfl

theorem live_of (t : Fin cfg0.N) (h : t.val % 16 = 0) : (!(k0_cond1 (grid0.coords t) == 1#1)) = false := by
  rw [(runs_iff t).mpr h]; rfl
theorem idle_of (t : Fin cfg0.N) (h : t.val % 16 ≠ 0) : (!(k0_cond1 (grid0.coords t) == 1#1)) = true := by
  rw [Bool.not_eq_true', beq_eq_false_iff_ne]; exact fun e => h ((runs_iff t).mp e)

/-- A window left alone at the points after the first of each row of the grid, and not written back before the last,
    holds there what the body left at the row's first. -/
theorem before_kept (c : Dev nD) (dat : Dat τ (Elt F) Unit ℕ (UR sig nD τ) ℕ cfg0 c) (w : Fin cfg0.W) (hw : (cfg0.win w).isOut = true)
    (hfl : ∀ t : Fin cfg0.N, (cfg0.win w).flush t = true → t.val % 16 = 15)
    (hlive : ∀ t : Fin cfg0.N, t.val % 16 = 0 → cfg0.idle w (cfg0.grid.coords t) = false)
    (hidle : ∀ t : Fin cfg0.N, t.val % 16 ≠ 0 → cfg0.idle w (cfg0.grid.coords t) = true)
    (hkept : ∀ (t : Fin cfg0.N) d, dat.kept w t d = dat.after w t)
    (hsame : ∀ t t' : Fin cfg0.N, t'.val / 16 = t.val / 16 → dat.after w t' = dat.after w t) :
    ∀ (n : Nat) (t : Fin cfg0.N), t.val = n → t.val % 16 ≠ 0 → ∀ d, dat.before w t d = dat.after w t
  | 0, t, e, h, _ => absurd (by rw [e]) h
  | n + 1, t, e, h, d => by
    have hb : t.val - 1 < cfg0.N := Nat.lt_of_le_of_lt (Nat.sub_le _ _) t.isLt
    have hs : dat.after w ⟨t.val - 1, hb⟩ = dat.after w t := hsame t ⟨t.val - 1, hb⟩ (by show (t.val - 1) / 16 = _; omega)
    have hf : (cfg0.win w).flush ⟨t.val - 1, hb⟩ = false := by
      rw [Bool.eq_false_iff]
      intro hf
      have := hfl _ hf
      simp only at this
      omega
    rw [dat.before_of_pos w t (by omega) ((cfg0.win w).fetch_out hw t), hf, if_neg Bool.false_ne_true, ← hs]
    unfold Dat.left
    by_cases h' : (t.val - 1) % 16 = 0
    · rw [hlive ⟨t.val - 1, hb⟩ h']
      exact hkept _ _
    · rw [hidle ⟨t.val - 1, hb⟩ h']
      exact before_kept c dat w hw hfl hlive hidle hkept hsame n ⟨t.val - 1, hb⟩ (by show t.val - 1 = n; omega) h' d

theorem kept4 (c : Dev nD) (t : Fin cfg0.N) (d) : (dats m 0 c).kept 4 t d = (dats m 0 c).after 4 t := by
  unfold Dat.kept
  rw [Pipeline.fill_of_clip_none 4 _ (fun _ => rfl) d ((dats m 0 c).after 4 t), Window.fill_cut]
theorem kept5 (c : Dev nD) (t : Fin cfg0.N) (d) : (dats m 0 c).kept 5 t d = (dats m 0 c).after 5 t := by
  unfold Dat.kept
  rw [Pipeline.fill_of_clip_none 5 _ (fun _ => rfl) d ((dats m 0 c).after 5 t), Window.fill_cut]

theorem before4 (c : Dev nD) (t : Fin cfg0.N) (h : t.val % 16 ≠ 0) (d) : (dats m 0 c).before 4 t d = (dats m 0 c).after 4 t :=
  before_kept c (dats m 0 c) 4 rfl (fun t => (flush0_4 t).mp) (fun t h => (idle4 t).trans (live_of t h)) (fun t h => (idle4 t).trans (idle_of t h))
    (kept4 m c) (fun t t' e => by rw [after4, after4, xAt_prev m c t t' e]) t.val t rfl h d
theorem before5 (c : Dev nD) (t : Fin cfg0.N) (h : t.val % 16 ≠ 0) (d) : (dats m 0 c).before 5 t d = (dats m 0 c).after 5 t :=
  before_kept c (dats m 0 c) 5 rfl (fun t => (flush0_5 t).mp) (fun t h => (idle5 t).trans (live_of t h)) (fun t h => (idle5 t).trans (idle_of t h))
    (kept5 m c) (fun t t' e => by rw [after5, after5, xAt_prev m c t t' e]) t.val t rfl h d

/-! ## The scratch buffer between points -/

theorem keeps_first (c : Dev nD) (n : Nat) (hn : n ≤ cfg0.N) (h : n % 16 = 0) :
    keeps (F := F) m c n hn = iprop(∃ d, owns (c : Thread nD τ) scratch fullShare d) := by
  unfold keeps; rw [dif_pos h]

theorem keeps_later (c : Dev nD) (t : Fin cfg0.N) (h : t.val % 16 ≠ 0) :
    keeps (F := F) m c t.val (Nat.le_of_lt t.isLt) = owns (c : Thread nD τ) scratch fullShare (blockX (xAt m c t)) := by
  unfold keeps
  rw [dif_neg h, xAt_prev m c t ⟨t.val - 1, _⟩ (by show (t.val - 1) / 16 = _; omega)]

theorem keeps_next (c : Dev nD) (t : Fin cfg0.N) :
    owns (c : Thread nD τ) scratch fullShare (blockX (xAt m c t)) ⊢ keeps (F := F) m c (t.val + 1) t.isLt := by
  unfold keeps
  by_cases h : (t.val + 1) % 16 = 0
  · rw [dif_pos h]
    iintro H
    iexists _
    iexact H
  · rw [dif_neg h]
    exact .rfl

/-! ## The body at a point -/

abbrev ms0 (t : Fin cfg0.N) : Memref sig .tc .smem S64x56 .f32 := win0_0.stage (cfg0.slots t 0)
abbrev ms1 (t : Fin cfg0.N) : Memref sig .tc .vmem S512x7168 .bf16 := win0_1.stage (cfg0.slots t 1)
abbrev ms2 (t : Fin cfg0.N) : Memref sig .tc .vmem S512x7168 .fp8e4m3 := win0_2.stage (cfg0.slots t 2)
abbrev ms3 (t : Fin cfg0.N) : Memref sig .tc .vmem S512x512 .bf16 := win0_3.stage (cfg0.slots t 3)
abbrev ms4 (t : Fin cfg0.N) : Memref sig .tc .vmem S512x7168 .fp8e4m3 := win0_4.stage (cfg0.slots t 4)
abbrev ms5 (t : Fin cfg0.N) : Memref sig .tc .vmem S512x56 .f32 := win0_5.stage (cfg0.slots t 5)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) :
    (dats m 0 c).leavesExact 1 t = owns (c : Thread nD τ) (ms1 t) fullShare (xAt m c t) := by
  unfold Dat.leavesExact; rw [show cfg0.idle 1 (cfg0.grid.coords t) = false from rfl, after1]; rfl
theorem leaves2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) :
    (dats m 0 c).leavesExact 3 t = owns (c : Thread nD τ) (ms3 t) fullShare (blockY (grid0.coords t) (iblk m c 0 t) (iblk m c 2 t) (blockX (xAt m c t))) := by
  unfold Dat.leavesExact; rw [show cfg0.idle 3 (cfg0.grid.coords t) = false from rfl, after3]
theorem leaves4 (c : Dev nD) (t : Fin cfg0.N) (h : t.val % 16 = 0) :
    (dats m 0 c).leavesExact 4 t = owns (c : Thread nD τ) (ms4 t) fullShare (blockCodes (xAt m c t)) := by
  unfold Dat.leavesExact; rw [show cfg0.idle 4 (cfg0.grid.coords t) = false from (idle4 t).trans (live_of t h), after4]
theorem leaves5 (c : Dev nD) (t : Fin cfg0.N) (h : t.val % 16 = 0) :
    (dats m 0 c).leavesExact 5 t = owns (c : Thread nD τ) (ms5 t) fullShare (scales (xAt m c t) 56 (Nat.le_refl 56)) := by
  unfold Dat.leavesExact; rw [show cfg0.idle 5 (cfg0.grid.coords t) = false from (idle5 t).trans (live_of t h), after5]

theorem leaves4_later (c : Dev nD) (t : Fin cfg0.N) (h : t.val % 16 ≠ 0) (d) :
    owns (c : Thread nD τ) (ms4 t) fullShare ((dats m 0 c).before 4 t d) ⊢ ((dats m 0 c).leavesExact 4 t : sProp 𝕄) := by
  unfold Dat.leavesExact
  rw [show cfg0.idle 4 (cfg0.grid.coords t) = true from (idle4 t).trans (idle_of t h)]
  cases hf : (cfg0.win 4).flush t
  · iintro H
    iexists d
    iexact H
  · rw [before4 m c t h d]
theorem leaves5_later (c : Dev nD) (t : Fin cfg0.N) (h : t.val % 16 ≠ 0) (d) :
    owns (c : Thread nD τ) (ms5 t) fullShare ((dats m 0 c).before 5 t d) ⊢ ((dats m 0 c).leavesExact 5 t : sProp 𝕄) := by
  unfold Dat.leavesExact
  rw [show cfg0.idle 5 (cfg0.grid.coords t) = true from (idle5 t).trans (idle_of t h)]
  cases hf : (cfg0.win 5).flush t
  · iintro H
    iexists d
    iexact H
  · rw [before5 m c t h d]

theorem inv_start (c : Dev nD) (t : Fin cfg0.N) :
    (dats m 0 c).Φ t.castSucc = inv m c t.val (Nat.le_of_lt t.isLt) := by
  dsimp only [dats]; exact Dat.Φ_castSucc (inv m c) t

theorem inv_next (c : Dev nD) (t : Fin cfg0.N) : (dats m 0 c).Φ t.succ = inv m c (t.val + 1) t.isLt := by
  dsimp only [dats]; rfl

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [inv_start, inv_next, show (dats m 0 c).owesAt () t.succ = (dats m 0 c).owesAt () t.castSucc from rfl, leaves0, leaves1, leaves2, leaves3]
  unfold inv
  by_cases h0 : t.val % 16 = 0
  · rw [keeps_first m c t.val _ h0, leaves4 m c t h0, leaves5 m c t h0, body_pos _ _ _ _ _ _ _ _ _ _ _ _ _ _ _ ((runs_iff t).mpr h0)]
    simp only [wp_bind]
    iintro ⟨⟨HS, Hg⟩, Ho, ⟨%d0, H0⟩, ⟨%d1, H1⟩, ⟨%d2, H2⟩, ⟨%d3, H3⟩, ⟨%d4, H4⟩, ⟨%d5, H5⟩⟩
    iapply quantise_wp c Set.univ _ _ _ _ _ _ (xAt m c t) _
    isplitl [H1]; · iexact H1
    isplitl [H4]; · iexists _; iexact H4
    isplitl [H5]; · iexists _; iexact H5
    isplitl [HS]; · iexact HS
    iintro H1 H4 H5 HS
    iapply product_wp c Set.univ (grid0.coords t) _ _ (iblk m c 0 t) (iblk m c 2 t) _ (blockX (xAt m c t)) _ _ _
    isplitl [H0]; · iexact H0
    isplitl [H2]; · iexact H2
    isplitl [HS]; · iexact HS
    isplitl [H3]; · iexists _; iexact H3
    iintro H0 H2 HS H3
    isplitl [HS Hg]
    · isplitl [HS]
      · iapply keeps_next m c t
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [keeps_later m c t h0, body_neg _ _ _ _ _ _ _ _ _ _ _ _ _ _ _ (fun e => h0 ((runs_iff t).mp e))]
    iintro ⟨⟨HS, Hg⟩, Ho, ⟨%d0, H0⟩, ⟨%d1, H1⟩, ⟨%d2, H2⟩, ⟨%d3, H3⟩, ⟨%d4, H4⟩, ⟨%d5, H5⟩⟩
    iapply product_wp c Set.univ (grid0.coords t) _ _ (iblk m c 0 t) (iblk m c 2 t) _ (blockX (xAt m c t)) _ _ _
    isplitl [H0]; · iexact H0
    isplitl [H2]; · iexact H2
    isplitl [HS]; · iexact HS
    isplitl [H3]; · iexists _; iexact H3
    iintro H0 H2 HS H3
    isplitl [HS Hg]
    · isplitl [HS]
      · iapply keeps_next m c t
        iexact HS
      iexact Hg
    isplitl [Ho]; · iexact Ho
    isplitl [H0]; · iexact H0
    isplitl [H1]; · iexact H1
    isplitl [H2]; · iexact H2
    isplitl [H3]; · iexact H3
    isplitl [H4]
    · iapply leaves4_later m c t h0 d4
      iexact H4
    iapply leaves5_later m c t h0 d5
    iexact H5

theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem class_inv (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

theorem inv_zero (c : Dev nD) : (Pipeline.ΦA spec0 c : sProp 𝕄) ⊢ (dats m 0 c).Φ 0 := by
  rw [class_inv]
  show _ ⊢ inv m c 0 (Nat.zero_le _)
  unfold inv
  rw [keeps_first m c 0 _ rfl]

theorem inv_last (c : Dev nD) : (dats m 0 c).Φ (Fin.last cfg0.N) ⊢ (Pipeline.ΦA spec0 c : sProp 𝕄) := by
  rw [class_inv]
  show inv m c cfg0.N (Nat.le_refl _) ⊢ _
  unfold inv
  rw [keeps_first m c cfg0.N _ (by rw [show cfg0.N = 768 from N_0])]

set_option backward.isDefEq.respectTransparency.types false in
/-- Every weakly fair execution of the kernel ends, every array at what the points left in it, every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_zero m) (hout := inv_last m)

theorem run : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run m ρ)

/-- The frame: every execution ends, the arguments unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.KernelIdeal.Own

end
-- ==== Proof.Groups.lean ====
/-
  One group of 128 numbers quantised, as plain formulas over the extended reals; and the kernel's group of columns read at an
  index as those formulas.
-/
module

public import proofs.«01_k».proof.Proof.Ladder
public import proofs.«01_k».proof.Proof.Run

@[expose] public section

set_option maxRecDepth 16384

noncomputable section

open Idealize.ShloMosaic

namespace Cert.Own

/-- The largest magnitude of a group times the constant nearest 1/448. -/
def amax (f : Fin 128 → EReal) : EReal :=
  (Finset.univ.fold max (Ideal.ofBits .f32 0xFF800000#32) fun k => max (f k) (-f k)) * Ideal.ofBits .f32 0x3B124925#32

/-- A number at an inverse scale, clamped to the range of the codes. -/
def code (inv x : EReal) : EReal := min (Ideal.ofBits .f32 0x43E00000#32) (max (Ideal.ofBits .f32 0xC3E00000#32) (x * inv))

/-- The numbers of group `g` of row `r`. -/
def lanes {R : Nat} (x : (⟨2, ![R, 7168]⟩ : Shape).Idx → EReal) (r : Fin R) (g : Fin 56) : Fin 128 → EReal :=
  fun k => x (ix2 r ⟨128 * g.val + k.val, by omega⟩)

theorem group_lt (l : Fin 7168) : l.val / 128 < 56 := by omega

/-- The scaled largest magnitude of the group column `l` of row `r` lies in. -/
def amaxAt {R : Nat} (x : (⟨2, ![R, 7168]⟩ : Shape).Idx → EReal) (r : Fin R) (l : Fin 7168) : EReal := amax (lanes x r ⟨l.val / 128, group_lt l⟩)

/-! The three results over the whole arrays, at any choice `sc` of the scale and `inv` of its inverse. -/

/-- The codes. -/
def codes (inv : EReal → EReal) (X : (⟨2, ![24576, 7168]⟩ : Shape).Idx → EReal) : (⟨2, ![24576, 7168]⟩ : Shape).Idx → EReal :=
  fun j => code (inv (amaxAt X (j 0) (j 1))) (X (ix2 (j 0) (j 1)))

/-- The scales. -/
def scaleTable (sc : EReal → EReal) (X : (⟨2, ![24576, 7168]⟩ : Shape).Idx → EReal) : (⟨2, ![24576, 56]⟩ : Shape).Idx → EReal :=
  fun j => sc (amax (lanes X (j 0) (j 1)))

/-- A weight at its tile's scale. -/
def weightAt (W : (⟨2, ![8192, 7168]⟩ : Shape).Idx → EReal) (S : (⟨2, ![64, 56]⟩ : Shape).Idx → EReal) (n : Fin 8192) (l : Fin 7168) : EReal :=
  W (ix2 n l) * S (ix2 ⟨n.val / 128, by omega⟩ ⟨l.val / 128, group_lt l⟩)

/-- The product of the codes at their scales by the weights at theirs. -/
def prods (inv sc : EReal → EReal) (X : (⟨2, ![24576, 7168]⟩ : Shape).Idx → EReal) (W : (⟨2, ![8192, 7168]⟩ : Shape).Idx → EReal)
    (S : (⟨2, ![64, 56]⟩ : Shape).Idx → EReal) : (⟨2, ![24576, 8192]⟩ : Shape).Idx → EReal :=
  fun j => ∑ l : Fin 7168, code (inv (amaxAt X (j 0) l)) (X (ix2 (j 0) l)) * sc (amaxAt X (j 0) l) * weightAt W S (j 1) l

end Cert.Own

namespace Cert.KernelIdeal.Own

open Cert.KernelIdeal.Gen Cert.Own

/-- Each row's scaled largest magnitude. -/
theorem rowMax_at (x : FVec Ideal S512x128 .bf16) (r : Fin 512) (o : Fin 1) : rowMax x (ix2 r o) = amax (fun k => x (ix2 r k)) := by
  pointwise [rowMax, amax]
  rfl

theorem broadcast_at {α : Type} (s : Shape) (a : α) (y : s.Idx) : broadcast s a y = a := rfl

theorem select_at {s : Shape} {α : Type} (c : IVec s 1) (a b : s.Idx → α) (y : s.Idx) : select c a b y = Scalar.select (c y) (a y) (b y) := rfl

theorem rung_at (v : FVec Ideal S512x1 .f32) (c : BitVec 32) (e : IVec S512x1 32) (y : S512x1.Idx) : rung v c e y = rung1 (v y) c (e y) := by
  unfold rung rung1; rfl

/-- The ladder of one row. -/
theorem ladder_at (v : FVec Ideal S512x1 .f32) (y : S512x1.Idx) : ladder v y = ladder1 (v y) := by
  unfold ladder ladder1
  simp only [rung_at, broadcast_at]

/-- The field of one row. -/
theorem field_at (e : IVec S512x1 32) (y : S512x1.Idx) : field e y = field1 (e y) := by
  unfold field field1
  simp only [select_at, ori_apply, cmpi_apply, broadcast_at]

/-- The scale of one row. -/
theorem groupScale_at (x : FVec Ideal S512x128 .bf16) (r : Fin 512) (o : Fin 1) : groupScale x (ix2 r o) = kScale (amax fun k => x (ix2 r k)) := by
  rw [← rowMax_at x r o]
  unfold groupScale kScale
  rw [← ladder_at, ← field_at]
  simp only [bitcastToFloat_apply, addi_apply, broadcast_at, IntOp.addi]
  rfl

/-- The inverse scale of one row. -/
theorem groupInv_at (x : FVec Ideal S512x128 .bf16) (r : Fin 512) (o : Fin 1) : groupInv x (ix2 r o) = kInv (amax fun k => x (ix2 r k)) := by
  rw [← rowMax_at x r o]
  unfold groupInv kInv
  rw [← ladder_at, ← field_at]
  simp only [bitcastToFloat_apply, subi_apply, broadcast_at, IntOp.subi]
  rfl

/-- A code. -/
theorem groupCodes_at (x : FVec Ideal S512x128 .bf16) (r : Fin 512) (k : Fin 128) :
    groupCodes x (ix2 r k) = code (kInv (amax fun k => x (ix2 r k))) (x (ix2 r k)) := by
  rw [← groupInv_at x r 0]
  pointwise [groupCodes, code]

/-- An entry of the operand the products read. -/
theorem groupX_at (x : FVec Ideal S512x128 .bf16) (r : Fin 512) (k : Fin 128) :
    groupX x (ix2 r k) = (code (kInv (amax fun k => x (ix2 r k))) (x (ix2 r k)) * kScale (amax fun k => x (ix2 r k)) : EReal) := by
  rw [← groupScale_at x r 0, ← groupCodes_at x r k]
  pointwise [groupX]

/-- A group of a block of activations, at an index. -/
theorem groupOf_at (g : Nat) (h : g < 56) (x : FVec Ideal S512x7168 .bf16) (r : Fin 512) (k : Fin 128) :
    groupOf g h x (ix2 r k) = x (ix2 r ⟨128 * g + k.val, by omega⟩) :=
  congrArg x (ix2_of_vals _ _ _ (emb_row g h _) (emb_lane g h _))

end Cert.KernelIdeal.Own

end
-- ==== Proof.Blocks.lean ====
/-
  What one grid point's block functions are at an index, over the extended reals: the codes, the scales, the operand the
  products read, and the block of results as one sum over all 7168 columns.
-/
module

public import proofs.«01_k».proof.Proof.Groups
public import proofs.«01_k».proof.Proof.Product

@[expose] public section

set_option maxRecDepth 16384

noncomputable section

open Idealize.ShloMosaic

namespace Cert.KernelIdeal.Own

open Cert.KernelIdeal.Gen Cert.Own

/-- A group of a block, read along its lanes, is the block's lanes. -/
theorem groupOf_lanes (x : FVec Ideal S512x7168 .bf16) (r : Fin 512) (g : Nat) (h : g < 56) :
    (fun k => groupOf g h x (ix2 r k)) = lanes x r ⟨g, h⟩ := funext fun k => groupOf_at g h x r k

theorem groupOf_self (x : FVec Ideal S512x7168 .bf16) (r : Fin 512) (l : Fin 7168) (k : Fin 128) (hk : k.val = l.val % 128) :
    groupOf (l.val / 128) (group_lt l) x (ix2 r k) = x (ix2 r l) := by
  rw [groupOf_at]
  exact congrArg (fun q => x (ix2 r q)) (Fin.ext (by show 128 * (l.val / 128) + k.val = l.val; omega))

/-- The codes of a block, at an index. -/
theorem blockCodes_at (x : FVec Ideal S512x7168 .bf16) (r : Fin 512) (l : Fin 7168) :
    blockCodes x (ix2 r l) = code (kInv (amaxAt x r l)) (x (ix2 r l)) := by
  refine (groupCodes_at (groupOf (l.val / 128) (group_lt l) x) r ⟨l.val % 128, Nat.mod_lt _ (by decide)⟩).trans ?_
  rw [groupOf_lanes, groupOf_self x r l ⟨l.val % 128, Nat.mod_lt _ (by decide)⟩ rfl]
  rfl

/-- The operand the products read, at an index. -/
theorem blockX_at (x : FVec Ideal S512x7168 .bf16) (r : Fin 512) (l : Fin 7168) :
    blockX x (ix2 r l) = (code (kInv (amaxAt x r l)) (x (ix2 r l)) * kScale (amaxAt x r l) : EReal) := by
  refine (groupX_at (groupOf (l.val / 128) (group_lt l) x) r ⟨l.val % 128, Nat.mod_lt _ (by decide)⟩).trans ?_
  rw [groupOf_lanes, groupOf_self x r l ⟨l.val % 128, Nat.mod_lt _ (by decide)⟩ rfl]
  rfl

/-- The table with one group's column filled in, at an index. -/
theorem putScale_at (n : Nat) (hn : n < 56) (s : FVec Ideal S512x1 .f32) (t : FVec Ideal S512x56 .f32) (r : Fin 512) (g : Fin 56) :
    putScale (BitVec.ofNat 32 n) s t (ix2 r g) = if g.val = n then s (ix2 r 0) else t (ix2 r g) := by
  unfold putScale
  pointwise
  have : (BitVec.ofNat 32 g.val = BitVec.ofNat 32 n) ↔ g.val = n := by
    constructor
    · intro h
      have := congrArg BitVec.toNat h
      simp only [BitVec.toNat_ofNat] at this
      omega
    · intro h; rw [h]
  by_cases h : g.val = n
  · simp [IntOp.cmpi, Scalar.select, h]
  · have hb : (BitVec.ofNat 32 g.val == BitVec.ofNat 32 n) = false := by
      rw [beq_eq_false_iff_ne]; exact fun q => h (this.1 q)
    simp only [IntOp.cmpi, Scalar.select, hb, if_neg h]
    exact if_neg (by decide)

/-- The table of scales, at a group already filled in. -/
theorem scales_at (x : FVec Ideal S512x7168 .bf16) (r : Fin 512) (g : Fin 56) : ∀ (n : Nat) (h : n ≤ 56), g.val < n →
    scales x n h (ix2 r g) = kScale (amax (lanes x r g)) := by
  intro n
  induction n with
  | zero => intro h hg; omega
  | succ n ih =>
    intro h hg
    refine (putScale_at n h _ _ r g).trans ?_
    by_cases e : g.val = n
    · rw [if_pos e, groupScale_at, groupOf_lanes]
      exact congrArg (fun q => kScale (amax (lanes x r q))) (Fin.ext e.symm)
    · rw [if_neg e]
      exact ih _ (by omega)

/-- A weight at its tile's scale. -/
def weight (i : grid0.Coords) (ws : FVec Ideal S64x56 .f32) (w : FVec Ideal S512x7168 .fp8e4m3) (n : Fin 512) (l : Fin 7168) : EReal :=
  (w (ix2 n l) : EReal) * (ws (ix2 ⟨4 * (i 1).val + n.val / 128, by have hi : (i 1).val < 16 := (i 1).isLt; omega⟩ ⟨l.val / 128, group_lt l⟩) : EReal)

theorem weight_congr (i : grid0.Coords) (ws : FVec Ideal S64x56 .f32) (w : FVec Ideal S512x7168 .fp8e4m3) (n n' : Fin 512) (l l' : Fin 7168)
    (hn : n.val = n'.val) (hl : l.val = l'.val) : weight i ws w n l = weight i ws w n' l' := by
  obtain rfl := Fin.ext hn; obtain rfl := Fin.ext hl; rfl

/-- A tile at its scale, at an index. -/
theorem tileVal_at (i : grid0.Coords) (ws : FVec Ideal S64x56 .f32) (w : FVec Ideal S512x7168 .fp8e4m3) (b : Fin 4) (g : Nat) (h : g < 56)
    (o k : Fin 128) : tileVal i ws w b g h (ix2 o k) = weight i ws w ⟨128 * b.val + o.val, by omega⟩ ⟨128 * g + k.val, by omega⟩ := by
  have e : (tileRect b.val g b.isLt h).emb (ix2 o k : S128x128.Idx) = (ix2 ⟨128 * b.val + o.val, by omega⟩ ⟨128 * g + k.val, by omega⟩ : S512x7168.Idx) :=
    ix2_of_vals _ _ _ (emb_val _ _ _ _ _) (emb_val _ _ _ _ _)
  have e1 : tileVal i ws w b g h (ix2 o k) = ((w ((tileRect b.val g b.isLt h).emb (ix2 o k : S128x128.Idx)) : EReal) * (ws (wsIdx i b g h) : EReal)) := rfl
  rw [e1, e]
  unfold weight wsIdx
  have hb : (128 * b.val + o.val) / 128 = b.val := by omega
  have hg : (128 * g + k.val) / 128 = g := by omega
  simp only [hb, hg]

/-- Two tiles side by side, at an index. -/
theorem pairVal_at (i : grid0.Coords) (ws : FVec Ideal S64x56 .f32) (w : FVec Ideal S512x7168 .fp8e4m3) (b : Fin 4) (p : Nat) (h : p < 28)
    (o : Fin 128) (k : Fin 256) : pairVal i ws w b p h (ix2 o k) = weight i ws w ⟨128 * b.val + o.val, by omega⟩ ⟨256 * p + k.val, by omega⟩ := by
  unfold pairVal
  generalize hL : tileVal i ws w b (2 * p) (by omega) = L
  generalize hR : tileVal i ws w b (2 * p + 1) (by omega) = R
  pointwise
  by_cases hk : k.val < 128
  · rw [dif_pos hk, ← hL, tileVal_at]
    exact weight_congr i ws w _ _ _ _ rfl (by show 128 * (2 * p) + k.val = 256 * p + k.val; omega)
  · rw [dif_neg hk, ← hR, tileVal_at]
    exact weight_congr i ws w _ _ _ _ rfl (by show 128 * (2 * p + 1) + (k.val - 128) = 256 * p + k.val; omega)

/-- One product, at an index: a sum over its 256 columns. -/
theorem chunkVal_at (i : grid0.Coords) (ws : FVec Ideal S64x56 .f32) (w : FVec Ideal S512x7168 .fp8e4m3) (x : FVec Ideal S512x7168 .bf16)
    (p : Nat) (h : p < 28) (r n : Fin 512) : chunkVal i ws w x p h (ix2 r n)
      = ∑ k : Fin 256, (x (ix2 r ⟨256 * p + k.val, by omega⟩) : EReal) * weight i ws w n ⟨256 * p + k.val, by omega⟩ := by
  have hx : ∀ k : Fin 256, chunkOf p h x (ix2 r k) = x (ix2 r ⟨256 * p + k.val, by omega⟩) := fun k =>
    congrArg x (ix2_of_vals _ _ _ ((emb_val _ _ _ _ _).trans (Nat.zero_add _)) (emb_val _ _ _ _ _))
  unfold chunkVal
  generalize hX : chunkOf p h x = X at hx ⊢
  generalize h0 : pairVal i ws w 0 p h = P0
  generalize h1 : pairVal i ws w 1 p h = P1
  generalize h2 : pairVal i ws w 2 p h = P2
  generalize h3 : pairVal i ws w 3 p h = P3
  pointwise
  refine Finset.sum_congr rfl fun k _ => Ideal.mul_congr (hx k) ?_
  by_cases c1 : n.val < 128
  · rw [dif_pos c1, ← h0, pairVal_at]
    exact weight_congr i ws w _ _ _ _ (by show 128 * 0 + n.val = n.val; omega) rfl
  rw [dif_neg c1]
  by_cases c2 : n.val - 128 < 128
  · rw [dif_pos c2, ← h1, pairVal_at]
    exact weight_congr i ws w _ _ _ _ (by show 128 * 1 + (n.val - 128) = n.val; omega) rfl
  rw [dif_neg c2]
  by_cases c3 : n.val - 128 - 128 < 128
  · rw [dif_pos c3, ← h2, pairVal_at]
    exact weight_congr i ws w _ _ _ _ (by show 128 * 2 + (n.val - 128 - 128) = n.val; omega) rfl
  rw [dif_neg c3, ← h3, pairVal_at]
  exact weight_congr i ws w _ _ _ _ (by show 128 * 3 + (n.val - 128 - 128 - 128) = n.val; omega) rfl

/-- The term one column of the operand adds to a result. -/
def term (i : grid0.Coords) (ws : FVec Ideal S64x56 .f32) (w : FVec Ideal S512x7168 .fp8e4m3) (x : FVec Ideal S512x7168 .bf16)
    (r n : Fin 512) (l : Fin 7168) : EReal := (x (ix2 r l) : EReal) * weight i ws w n l

/-- The first `q + 1` products added up, at an index. -/
theorem sumTo_at (i : grid0.Coords) (ws : FVec Ideal S64x56 .f32) (w : FVec Ideal S512x7168 .fp8e4m3) (x : FVec Ideal S512x7168 .bf16)
    (r n : Fin 512) : ∀ (q : Nat) (h : q < 28), sumTo i ws w x q h (ix2 r n)
      = ∑ p : Fin (q + 1), ∑ k : Fin 256, term i ws w x r n ⟨256 * p.val + k.val, by omega⟩ := by
  intro q
  induction q with
  | zero => intro h; exact (chunkVal_at i ws w x 0 h r n).trans (Fin.sum_univ_one (fun p : Fin 1 => ∑ k : Fin 256, term i ws w x r n ⟨256 * p.val + k.val, by omega⟩)).symm
  | succ q ih =>
    intro h
    rw [Fin.sum_univ_castSucc]
    exact Ideal.add_congr (ih (Nat.lt_of_succ_lt h)) (chunkVal_at i ws w x (q + 1) h r n)

/-- The block of results, at an index: one sum over all the columns. -/
theorem blockY_at (i : grid0.Coords) (ws : FVec Ideal S64x56 .f32) (w : FVec Ideal S512x7168 .fp8e4m3) (x : FVec Ideal S512x7168 .bf16)
    (r n : Fin 512) : blockY i ws w x (ix2 r n) = ∑ l : Fin 7168, (x (ix2 r l) : EReal) * weight i ws w n l := by
  refine (sumTo_at i ws w x r n 27 (by decide)).trans ?_
  refine Eq.trans ?_ (Fin.sum_univ_tiles 28 256 rfl (fun l : Fin (28 * 256) => term i ws w x r n l)).symm
  refine Finset.sum_congr rfl fun p _ => Finset.sum_congr rfl fun k _ => ?_
  exact congrArg (term i ws w x r n) (Fin.ext (by show 256 * p.val + k.val = p.val * 256 + k.val; omega))

end Cert.KernelIdeal.Own

end
-- ==== Proof.Arrays.lean ====
/-
  What the kernel's three result arrays hold after the run, over the extended reals: one formula each, of the reshaped
  activations, the weights and the weights' scales.
-/
module

public import proofs.«01_k».proof.Proof.Blocks

@[expose] public section

set_option maxRecDepth 16384

noncomputable section

open Idealize.ShloMosaic Idealize.ShloMosaic.TcCoe Idealize.SL.Sem

namespace Cert.KernelIdeal.Own

open Cert.KernelIdeal.Gen Cert.Own

variable (m : (ℓ : Loc nD τ sig) → Buf (Elt Ideal) ℓ)

theorem orow_lt (t : Fin cfg0.N) (r : Fin 512) : 512 * (t.val / 16) + r.val < 24576 := by
  have := point_lt t; omega

theorem ocol_lt (t : Fin cfg0.N) (n : Fin 512) : 512 * (t.val % 16) + n.val < 8192 := by
  have := point_lt t; omega

theorem place3 (t : Fin cfg0.N) (y : S512x512.Idx) :
    (win0_3.blk t).view.emb y = ix2 ⟨512 * (t.val / 16) + (y 0).val, orow_lt t (y 0)⟩ ⟨512 * (t.val % 16) + (y 1).val, ocol_lt t (y 1)⟩ := by
  have e0 := win0_3.rect_emb_val t y 0
  have e1 := win0_3.rect_emb_val t y 1
  rw [index3] at e0 e1
  refine ix2_of_vals _ _ _ (e0.trans ?_) (e1.trans ?_)
  · exact mul_add_comm' (t.val / 16) (y 0).val 512
  · exact mul_add_comm' (t.val % 16) (y 1).val 512

theorem place4 (t : Fin cfg0.N) (y : S512x7168.Idx) :
    (win0_4.blk t).view.emb y = ix2 ⟨512 * (t.val / 16) + (y 0).val, orow_lt t (y 0)⟩ (y 1) := by
  have e0 := win0_4.rect_emb_val t y 0
  have e1 := win0_4.rect_emb_val t y 1
  rw [index4] at e0 e1
  refine ix2_of_vals _ _ _ (e0.trans ?_) (e1.trans ?_)
  · exact mul_add_comm' (t.val / 16) (y 0).val 512
  · exact (congrArg (· + (y 1).val) (Nat.zero_mul _)).trans (Nat.zero_add _)

theorem place5 (t : Fin cfg0.N) (y : S512x56.Idx) :
    (win0_5.blk t).view.emb y = ix2 ⟨512 * (t.val / 16) + (y 0).val, orow_lt t (y 0)⟩ (y 1) := by
  have e0 := win0_5.rect_emb_val t y 0
  have e1 := win0_5.rect_emb_val t y 1
  rw [index5] at e0 e1
  refine ix2_of_vals _ _ _ (e0.trans ?_) (e1.trans ?_)
  · exact mul_add_comm' (t.val / 16) (y 0).val 512
  · exact (congrArg (· + (y 1).val) (Nat.zero_mul _)).trans (Nat.zero_add _)

/-- A block's rows are rows of the activations. -/
theorem xAt_at (c : Dev nD) (t : Fin cfg0.N) (r : Fin 512) (l : Fin 7168) :
    xAt m c t (ix2 r l) = V m c main_v0 (ix2 ⟨512 * (t.val / 16) + r.val, orow_lt t r⟩ l) := congrFun (iblk_x m c t) (ix2 r l)

/-- So a block's groups are groups of the activations. -/
theorem lanes_xAt (c : Dev nD) (t : Fin cfg0.N) (r : Fin 512) (g : Fin 56) :
    lanes (xAt m c t) r g = lanes (V m c main_v0) ⟨512 * (t.val / 16) + r.val, orow_lt t r⟩ g := funext fun k => xAt_at m c t r _

theorem amax_xAt (c : Dev nD) (t : Fin cfg0.N) (r : Fin 512) (l : Fin 7168) :
    amaxAt (xAt m c t) r l = amaxAt (V m c main_v0) ⟨512 * (t.val / 16) + r.val, orow_lt t r⟩ l := congrArg amax (lanes_xAt m c t r _)

theorem codes_block (c : Dev nD) (t : Fin cfg0.N) (r : Fin 512) (l : Fin 7168) :
    blockCodes (xAt m c t) (ix2 r l) = codes kInv (V m c main_v0) (ix2 ⟨512 * (t.val / 16) + r.val, orow_lt t r⟩ l) := by
  rw [blockCodes_at, amax_xAt, xAt_at]
  rfl

theorem scales_block (c : Dev nD) (t : Fin cfg0.N) (r : Fin 512) (g : Fin 56) :
    scales (xAt m c t) 56 (Nat.le_refl 56) (ix2 r g) = scaleTable kScale (V m c main_v0) (ix2 ⟨512 * (t.val / 16) + r.val, orow_lt t r⟩ g) := by
  rw [scales_at _ _ _ _ _ g.isLt, lanes_xAt]
  rfl

theorem weight_rows (i : grid0.Coords) (q : Nat) (hq : q < 16) (hi : (i 1).val = q) (S : FVec Ideal S64x56 .f32) (W : FVec Ideal S8192x7168 .fp8e4m3)
    (h : ∀ n : Fin 512, 512 * q + n.val < 8192) (n : Fin 512) (l : Fin 7168) :
    weight i S (fun y : S512x7168.Idx => W (ix2 ⟨512 * q + (y 0).val, h (y 0)⟩ (y 1))) n l = weightAt W S ⟨512 * q + n.val, h n⟩ l := by
  unfold weight weightAt
  refine congrArg (fun s : S64x56.Idx => (W (ix2 ⟨512 * q + n.val, h n⟩ l) : EReal) * (S s : EReal)) ((ix2_inj _ _ _ _).mpr ⟨Fin.ext ?_, rfl⟩)
  show 4 * (i 1).val + n.val / 128 = (512 * q + n.val) / 128
  rw [hi]
  omega

theorem weight_block (c : Dev nD) (t : Fin cfg0.N) (n : Fin 512) (l : Fin 7168) :
    weight (grid0.coords t) (iblk m c 0 t) (iblk m c 2 t) n l
      = weightAt (V m c main_arg1) (V m c main_arg2) ⟨512 * (t.val % 16) + n.val, ocol_lt t n⟩ l := by
  rw [iblk_ws, iblk_w]
  exact weight_rows (grid0.coords t) (t.val % 16) (Nat.mod_lt _ (by decide)) (coord1 t) (V m c main_arg2) (V m c main_arg1) (fun n => ocol_lt t n) n l

theorem prods_block (c : Dev nD) (t : Fin cfg0.N) (r n : Fin 512) :
    blockY (grid0.coords t) (iblk m c 0 t) (iblk m c 2 t) (blockX (xAt m c t)) (ix2 r n)
      = prods kInv kScale (V m c main_v0) (V m c main_arg1) (V m c main_arg2)
          (ix2 ⟨512 * (t.val / 16) + r.val, orow_lt t r⟩ ⟨512 * (t.val % 16) + n.val, ocol_lt t n⟩) := by
  rw [blockY_at]
  refine Finset.sum_congr rfl fun l _ => ?_
  rw [weight_block]
  refine Ideal.mul_congr ?_ rfl
  rw [blockX_at, amax_xAt, xAt_at]
  rfl

/-- The codes the kernel leaves. -/
theorem final4 (c : Dev nD) : (dats m 0 c).arrAt 4 cfg0.N = codes kInv (V m c main_v0) := by
  refine (dats m 0 c).arrAt_eq_of_covers 4 _ (by decide +kernel) fun t _ y => ?_
  blk_simp
  rw [after4]
  refine Eq.trans ?_ (congrArg (codes kInv (V m c main_v0)) (place4 t y)).symm
  exact (congrArg (blockCodes (xAt m c t)) (ix2_eta y).symm).trans (codes_block m c t (y 0) (y 1))

/-- The scales the kernel leaves. -/
theorem final5 (c : Dev nD) : (dats m 0 c).arrAt 5 cfg0.N = scaleTable kScale (V m c main_v0) := by
  refine (dats m 0 c).arrAt_eq_of_covers 5 _ (by decide +kernel) fun t _ y => ?_
  blk_simp
  rw [after5]
  refine Eq.trans ?_ (congrArg (scaleTable kScale (V m c main_v0)) (place5 t y)).symm
  exact (congrArg (scales (xAt m c t) 56 (Nat.le_refl 56)) (ix2_eta y).symm).trans (scales_block m c t (y 0) (y 1))

theorem point3 (c : Dev nD) (t : Fin cfg0.N) (y : S512x512.Idx) :
    blockY (grid0.coords t) (iblk m c 0 t) (iblk m c 2 t) (blockX (xAt m c t)) y
      = prods kInv kScale (V m c main_v0) (V m c main_arg1) (V m c main_arg2) ((win0_3.blk t).view.emb y) := by
  have h := prods_block m c t (y 0) (y 1)
  have e : (ix2 (y 0) (y 1) : S512x512.Idx) = y := ix2_eta y
  rw [e] at h
  rw [place3]
  exact h

/-- The products the kernel leaves. -/
theorem final3 (c : Dev nD) : (dats m 0 c).arrAt 3 cfg0.N = prods kInv kScale (V m c main_v0) (V m c main_arg1) (V m c main_arg2) := by
  refine (dats m 0 c).arrAt_eq_of_covers 3 _ (by decide +kernel) fun t _ y => ?_
  blk_simp
  rw [after3]
  exact point3 m c t y

end Cert.KernelIdeal.Own

end
-- ==== Proof.Hosts.lean ====
/-
  The two programs' reshapes of the activations before their regions, read at an index.
-/
module

public import proofs.«01_k».proof.Proof.Groups
public import proofs.«01_k».proof.Proof.Gen.ReferenceIdeal.Frame
public import Idealize.ShloMosaic.Lib.Claim

@[expose] public section

set_option maxRecDepth 16384

noncomputable section

open Idealize.ShloMosaic Idealize.ShloMosaic.TcCoe Idealize.SL.Sem

namespace Cert.KernelIdeal.Own

open Cert.KernelIdeal.Gen

/-- The array the region reads is the argument reshaped. -/
theorem host_eq (m : (ℓ : Loc nD τ sig) → Buf (Elt Ideal) ℓ) (c : Dev nD) :
    V m c main_v0 = shapeCast S24576x7168 (m ((c : Thread nD τ).loc main_arg0)) shapeCasts_S8x3072x7168_S24576x7168 := by
  entry_read
  rfl

/-- Its rows are the argument's. -/
theorem flat_at (A : FVec Ideal S8x3072x7168 .bf16) (r : Fin 24576) (l : Fin 7168) :
    shapeCast S24576x7168 A shapeCasts_S8x3072x7168_S24576x7168 (ix2 r l)
      = A (ix3 ⟨r.val / 3072, by omega⟩ ⟨r.val % 3072, Nat.mod_lt _ (by decide)⟩ l) := by
  pointwise

end Cert.KernelIdeal.Own

namespace Cert.ReferenceIdeal.Own

open Cert.ReferenceIdeal.Gen

/-- The array the region reads is the argument reshaped. -/
theorem host_eq (m : (ℓ : Loc nD τ sig) → Buf (Elt Ideal) ℓ) (c : Dev nD) :
    V m c main_v0 = shapeCast S24576x56x128 (m ((c : Thread nD τ).loc main_arg0)) shapeCasts_S8x3072x7168_S24576x56x128 := by
  entry_read
  rfl

/-- Its rows are the argument's, in groups of 128 columns. -/
theorem grouped_at (A : FVec Ideal S8x3072x7168 .bf16) (r : Fin 24576) (g : Fin 56) (k : Fin 128) :
    shapeCast S24576x56x128 A shapeCasts_S8x3072x7168_S24576x56x128 (ix3 r g k)
      = A (ix3 ⟨r.val / 3072, by omega⟩ ⟨r.val % 3072, Nat.mod_lt _ (by decide)⟩ ⟨128 * g.val + k.val, by omega⟩) := by
  pointwise
  refine congrArg A ((ix3_inj _ _ _ _ _ _).mpr ⟨rfl, rfl, Fin.ext ?_⟩)
  show g.val * 128 + k.val = 128 * g.val + k.val
  omega

end Cert.ReferenceIdeal.Own

end
-- ==== Proof.RefValue.lean ====
/-
  What the reference's payloads are at an index, over the extended reals.
-/
module

public import proofs.«01_k».proof.Proof.Groups
public import proofs.«01_k».proof.Proof.Gen.ReferenceIdeal.Frame
public import Idealize.ShloMosaic.Lib.Pipeline.ValueKit

@[expose] public section

set_option maxRecDepth 16384

noncomputable section

open Idealize.ShloMosaic Idealize.ShloMosaic.TcCoe Idealize.SL.Sem

namespace Cert.ReferenceIdeal.Own

open Cert.ReferenceIdeal.Gen Cert.Own

/-- The reference's scale. -/
def rScale (v : EReal) : EReal := Ideal.exp2 (rExp v)

/-- The reference's inverse scale. -/
def rInv (v : EReal) : EReal := Ideal.exp2 (0 - rExp v)

/-- A splat's product with an array, at an index. -/
theorem mul_splat {s : Shape} (A : FVec Ideal s .f32) (b : BitVec 32) (y : s.Idx) :
    mulf A (broadcast s (Scalar.ofBits .f32 b)) y = ((A y : EReal) * Ideal.ofBits .f32 b : EReal) := rfl

/-- A power of two, at an index. -/
theorem exp2_at {s : Shape} (E : FVec Ideal s .f32) (y : s.Idx) : exp2 E y = Ideal.exp2 (E y) := rfl

/-- A splat minus an array, at an index. -/
theorem splat_sub {s : Shape} (E : FVec Ideal s .f32) (b : BitVec 32) (y : s.Idx) :
    subf (broadcast s (Scalar.ofBits .f32 b)) E y = (Ideal.ofBits .f32 b - (E y : EReal) : EReal) := rfl

/-- A magnitude, at an index. -/
theorem abs_at {s : Shape} (z : FVec Ideal s .f32) (y : s.Idx) : absf z y = (max (z y : EReal) (-(z y : EReal)) : EReal) := rfl

/-- The largest entries along the last of three axes, at an index. -/
theorem laneMax_at {a b c : Nat} (z : FVec Ideal ⟨3, ![a, b, c]⟩ .f32) (h : (⟨3, ![a, b, c]⟩ : Shape).Reduces [2] ⟨2, ![a, b]⟩)
    (h1 : FKind.Formats .f32) (h2 : (0xFF800000#32 : BitVec 32) = FKind.maximumf.neutral .f32 h1) (r : Fin a) (g : Fin b) :
    multiReduction (F := Ideal) .maximumf [2] ⟨2, ![a, b]⟩ z 0xFF800000#32 h h1 h2 (ix2 r g)
      = Finset.univ.fold max (Ideal.ofBits .f32 0xFF800000#32) (fun k : Fin c => (z (ix3 r g k) : EReal)) := by
  pointwise

/-- The scaled largest magnitudes. -/
def rmax (x : FVec Ideal S24576x56x128 .bf16) : FVec Ideal S24576x56 .f32 :=
  mulf (multiReduction .maximumf [2] S24576x56 (absf (k0_pay3 (F := Ideal) x)) 0xFF800000#32 reduces_S24576x56x128_S24576x56 (.inl rfl) rfl)
    (broadcast S24576x56 (Scalar.ofBits .f32 0x3B124925#32))

/-- The values widened, at an index. -/
theorem pay3_at (x : FVec Ideal S24576x56x128 .bf16) (y : S24576x56x128.Idx) : k0_pay3 (F := Ideal) x y = x y := by
  unfold k0_pay3
  rw [shapeCast_self]
  rfl

theorem rmax_at (x : FVec Ideal S24576x56x128 .bf16) (r : Fin 24576) (g : Fin 56) : rmax x (ix2 r g) = amax fun k => x (ix3 r g k) := by
  unfold rmax amax
  rw [mul_splat]
  refine congrArg (fun t : EReal => t * Ideal.ofBits .f32 0x3B124925#32) ((laneMax_at (absf (k0_pay3 (F := Ideal) x)) reduces_S24576x56x128_S24576x56 _ _ r g).trans ?_)
  simp only [abs_at, pay3_at]

/-- The exponents of given magnitudes. -/
def exps (v : FVec Ideal S24576x56 .f32) : FVec Ideal S24576x56 .f32 :=
  select (cmpf .olt v (broadcast S24576x56 (Scalar.ofBits .f32 0x00800000#32))) (broadcast S24576x56 (Scalar.ofBits .f32 0x00000000#32))
    (addf (floor (divf (log v) (log (broadcast S24576x56 (Scalar.ofBits .f32 0x40000000#32))))) (broadcast S24576x56 (Scalar.ofBits .f32 0x3F800000#32)))

theorem one_eq : Ideal.ofBits .f32 0x3F800000#32 = 1 := by
  rw [show Ideal.ofBits .f32 0x3F800000#32 = bare 127 from rfl, bare_pow 127 (by decide) (by decide), show ((127 : ℕ) : ℤ) - 127 = 0 by norm_num, zpow_zero]
  rfl

theorem zero_eq : Ideal.ofBits .f32 0x00000000#32 = 0 := bare_zero

theorem exps_at (v : FVec Ideal S24576x56 .f32) (y : S24576x56.Idx) : exps v y = rExp (v y) := by
  have h : exps v y = Scalar.select (Ideal.cmp .olt (v y) (Ideal.ofBits .f32 0x00800000#32)) (Ideal.ofBits .f32 0x00000000#32)
    (Ideal.liftRound Int.floor (Ideal.div (Ideal.log (v y)) (Ideal.log (Ideal.ofBits .f32 0x40000000#32))) + Ideal.ofBits .f32 0x3F800000#32) := rfl
  rw [h, one_eq, zero_eq]
  rfl

theorem pay4_eq (x : FVec Ideal S24576x56x128 .bf16) : k0_pay4 (F := Ideal) x = exps (rmax x) := rfl

/-- The exponents, at an index. -/
theorem exp_at (x : FVec Ideal S24576x56x128 .bf16) (r : Fin 24576) (g : Fin 56) :
    k0_pay4 (F := Ideal) x (ix2 r g) = rExp (amax fun k => x (ix3 r g k)) := by
  rw [pay4_eq, exps_at, rmax_at]

theorem scale_at (x : FVec Ideal S24576x56x128 .bf16) (r : Fin 24576) (g : Fin 56) :
    k0_pay5 (F := Ideal) x (ix2 r g) = rScale (amax fun k => x (ix3 r g k)) := by
  unfold rScale k0_pay5
  rw [exp2_at, exp_at]

/-- The inverse scales. -/
def invs (x : FVec Ideal S24576x56x128 .bf16) : FVec Ideal S24576x56 .f32 :=
  exp2 (subf (broadcast S24576x56 (Scalar.ofBits .f32 0x00000000#32)) (k0_pay4 (F := Ideal) x))

theorem invs_at (x : FVec Ideal S24576x56x128 .bf16) (r : Fin 24576) (g : Fin 56) :
    invs x (ix2 r g) = rInv (amax fun k => x (ix3 r g k)) := by
  unfold invs rInv
  rw [exp2_at, splat_sub, exp_at, zero_eq]

theorem pay6_eq (x : FVec Ideal S24576x56x128 .bf16) : k0_pay6 (F := Ideal) x =
    truncf .fp8e4m3 (minimumf (broadcast S24576x56x128 (Scalar.ofBits .f32 0x43E00000#32)) (maximumf (broadcast S24576x56x128 (Scalar.ofBits .f32 0xC3E00000#32))
      (mulf (k0_pay3 (F := Ideal) x) (broadcastTo S24576x56x128 (shapeCast S24576x56x1 (invs x) shapeCasts_S24576x56_S24576x56x1) broadcasts_S24576x56x1_S24576x56x128)))) bitsLt_fp8e4m3_f32 := rfl

theorem code_at (x : FVec Ideal S24576x56x128 .bf16) (r : Fin 24576) (g : Fin 56) (k : Fin 128) :
    k0_pay6 (F := Ideal) x (ix3 r g k) = code (rInv (amax fun k => x (ix3 r g k))) (x (ix3 r g k)) := by
  rw [← invs_at, ← pay3_at x (ix3 r g k), pay6_eq]
  generalize invs x = v
  generalize k0_pay3 (F := Ideal) x = z
  unfold code
  pointwise

theorem xq_at (x : FVec Ideal S24576x56x128 .bf16) (r : Fin 24576) (g : Fin 56) (k : Fin 128) :
    k0_pay7 (F := Ideal) x (ix3 r g k) = (code (rInv (amax fun k => x (ix3 r g k))) (x (ix3 r g k)) * rScale (amax fun k => x (ix3 r g k)) : EReal) := by
  rw [← scale_at, ← code_at]
  generalize hC : k0_pay6 (F := Ideal) x = C
  generalize hS : k0_pay5 (F := Ideal) x = S
  unfold k0_pay7
  rw [hC, hS]
  pointwise

theorem wq_at (W : FVec Ideal S8192x7168 .fp8e4m3) (S : FVec Ideal S64x56 .f32) (n : Fin 8192) (l : Fin 7168) :
    k0_pay8 (F := Ideal) W S (ix2 n l) = weightAt W S n l := by
  unfold weightAt
  pointwise [k0_pay8]

theorem prod_at (xq : FVec Ideal S24576x56x128 .bf16) (wq : FVec Ideal S8192x7168 .bf16) (r : Fin 24576) (n : Fin 8192) :
    k0_pay1 (F := Ideal) xq wq (ix2 r n) = ∑ l : Fin 7168, (xq (ix3 r ⟨l.val / 128, group_lt l⟩ ⟨l.val % 128, Nat.mod_lt _ (by decide)⟩) : EReal) * (wq (ix2 n l) : EReal) := by
  pointwise [k0_pay1]

theorem codes_at (C : FVec Ideal S24576x56x128 .fp8e4m3) (r : Fin 24576) (l : Fin 7168) :
    k0_pay2 (F := Ideal) C (ix2 r l) = C (ix3 r ⟨l.val / 128, group_lt l⟩ ⟨l.val % 128, Nat.mod_lt _ (by decide)⟩) := by
  pointwise [k0_pay2]

end Cert.ReferenceIdeal.Own

end
-- ==== Proof.RefArrays.lean ====
/-
  What the reference's three result arrays hold after its run, over the extended reals: its payloads of the reshaped
  activations, the weights and the weights' scales.
-/
module

public import proofs.«01_k».proof.Proof.RefValue
public import Idealize.ShloMosaic.Lib.Claim

@[expose] public section

set_option maxRecDepth 16384

noncomputable section

open Idealize.ShloMosaic Idealize.ShloMosaic.TcCoe Idealize.SL.Sem

namespace Cert.ReferenceIdeal.Own

open Cert.ReferenceIdeal.Gen Cert.Own

variable (m : (ℓ : Loc nD τ sig) → Buf (Elt Ideal) ℓ)

theorem index0 (a : Fin 3) : win0_0.index t0_0 a = 0 := rfl
theorem index1 (a : Fin 2) : win0_1.index t0_0 a = 0 := rfl
theorem index2 (a : Fin 2) : win0_2.index t0_0 a = 0 := rfl

/-- The one point's blocks are the whole arrays. -/
theorem block0 (c : Dev nD) : iblk m c 0 t0_0 = V m c main_v0 := by
  funext y
  blk_simp [iblk]
  generalize V m c main_v0 = X
  blk_ext [index0]

theorem block1 (c : Dev nD) : iblk m c 1 t0_0 = V m c main_arg1 := by
  funext y
  blk_simp [iblk]
  generalize V m c main_arg1 = X
  blk_ext [index1]

theorem block2 (c : Dev nD) : iblk m c 2 t0_0 = V m c main_arg2 := by
  funext y
  blk_simp [iblk]
  generalize V m c main_arg2 = X
  blk_ext [index2]

/-- The products the reference leaves. -/
theorem final3 (c : Dev nD) : (dats m 0 c).arrAt 3 cfg0.N
    = k0_pay1 (F := Ideal) (k0_pay7 (F := Ideal) (V m c main_v0)) (k0_pay8 (F := Ideal) (V m c main_arg1) (V m c main_arg2)) := by
  refine (dats m 0 c).arrAt_eq_of_after_last 3 t0_0 (by decide +kernel) _ fun j => ?_
  blk_simp
  rw [after0_3, block0, block1, block2]
  generalize V m c main_v0 = X
  generalize V m c main_arg1 = W
  generalize V m c main_arg2 = S
  frame_out

/-- The codes the reference leaves. -/
theorem final4 (c : Dev nD) : (dats m 0 c).arrAt 4 cfg0.N = k0_pay2 (F := Ideal) (k0_pay6 (F := Ideal) (V m c main_v0)) := by
  refine (dats m 0 c).arrAt_eq_of_after_last 4 t0_0 (by decide +kernel) _ fun j => ?_
  blk_simp
  rw [after0_4, block0]
  generalize V m c main_v0 = X
  frame_out

/-- The scales the reference leaves. -/
theorem final5 (c : Dev nD) : (dats m 0 c).arrAt 5 cfg0.N = k0_pay5 (F := Ideal) (V m c main_v0) := by
  refine (dats m 0 c).arrAt_eq_of_after_last 5 t0_0 (by decide +kernel) _ fun j => ?_
  blk_simp
  rw [after0_5, block0]
  generalize V m c main_v0 = X
  frame_out

end Cert.ReferenceIdeal.Own

end
-- ==== Proof.Bounds.lean ====
/-
  The largest magnitude of a group of finite 16-bit floats, at the constant nearest 1/448, is nonnegative and below
  2 ^ 120; so the kernel's scale of the group is the reference's.
-/
module

public import proofs.«01_k».proof.Proof.Groups
public import proofs.«01_k».proof.Proof.Gen.Pre_finite

@[expose] public section

noncomputable section

open Idealize.ShloMosaic

namespace Cert.Own

theorem top_parts : (0x7F7F0000#32).extractLsb' 31 1 = 0#1 ∧ ((0x7F7F0000#32).extractLsb' 23 8).toNat = 254
    ∧ ((0x7F7F0000#32).extractLsb' 0 23).toNat = 8323072 := by decide +kernel

/-- The largest finite 16-bit float of the activations' format. -/
theorem top_eq : Ideal.ofBits .f32 0x7F7F0000#32 = ((16711680 * (2 : ℝ) ^ (104 : ℤ) : ℝ) : EReal) := by
  obtain ⟨h1, h2, h3⟩ := top_parts
  unfold Ideal.ofBits Ideal.ieee
  simp only [Nat.reduceAdd, h1, h2, h3]
  rw [if_neg (by omega), if_neg (by omega)]
  congr 1
  norm_num

theorem recip_parts : (0x3B124925#32).extractLsb' 31 1 = 0#1 ∧ ((0x3B124925#32).extractLsb' 23 8).toNat = 118
    ∧ ((0x3B124925#32).extractLsb' 0 23).toNat = 1198373 := by decide +kernel

/-- The constant nearest 1/448. -/
theorem recip_eq : Ideal.ofBits .f32 0x3B124925#32 = ((9586981 * (2 : ℝ) ^ (-32 : ℤ) : ℝ) : EReal) := by
  obtain ⟨h1, h2, h3⟩ := recip_parts
  unfold Ideal.ofBits Ideal.ieee
  simp only [Nat.reduceAdd, h1, h2, h3]
  rw [if_neg (by omega), if_neg (by omega)]
  congr 1
  norm_num

theorem low_parts : (0xFF800000#32).extractLsb' 31 1 = 1#1 ∧ ((0xFF800000#32).extractLsb' 23 8).toNat = 255
    ∧ ((0xFF800000#32).extractLsb' 0 23).toNat = 0 := by decide +kernel

/-- The maximum starts from minus infinity. -/
theorem low_eq : Ideal.ofBits .f32 0xFF800000#32 = ⊥ := by
  obtain ⟨h1, h2, h3⟩ := low_parts
  unfold Ideal.ofBits Ideal.ieee
  simp only [Nat.reduceAdd, h1, h2, h3]
  norm_num

/-- A magnitude is nonnegative. -/
theorem mag_nonneg (x : EReal) : 0 ≤ max x (-x) := by
  rcases le_total 0 x with h | h
  · exact le_max_of_le_left h
  · refine le_max_of_le_right ?_
    have := EReal.neg_le_neg_iff.mpr h
    rwa [neg_zero] at this

theorem recip_nonneg : 0 ≤ Ideal.ofBits .f32 0x3B124925#32 := by
  rw [recip_eq]
  exact EReal.coe_nonneg.mpr (by positivity)

theorem amax_nonneg (f : Fin 128 → EReal) : 0 ≤ amax f := by
  unfold amax
  exact mul_nonneg (Finset.le_fold_max _ |>.mpr (.inr ⟨0, Finset.mem_univ _, mag_nonneg _⟩)) recip_nonneg

/-- The largest magnitude of a group of finite numbers, scaled, is below `2 ^ 120`. -/
theorem amax_lt (f : Fin 128 → EReal) (h : ∀ k, max (f k) (-f k) ≤ Ideal.ofBits .f32 0x7F7F0000#32) :
    amax f < (((2 : ℝ) ^ (120 : ℤ) : ℝ) : EReal) := by
  have hm : (Finset.univ.fold max (Ideal.ofBits .f32 0xFF800000#32) fun k => max (f k) (-f k)) ≤ Ideal.ofBits .f32 0x7F7F0000#32 :=
    (Finset.fold_max_le _).mpr ⟨by rw [low_eq]; exact bot_le, fun k _ => h k⟩
  refine lt_of_le_of_lt (mul_le_mul_of_nonneg_right hm recip_nonneg) ?_
  rw [top_eq, recip_eq, ← EReal.coe_mul, EReal.coe_lt_coe_iff]
  norm_num

/-- The reference's scale of a group's scaled largest magnitude. -/
theorem scales_agree (f : Fin 128 → EReal) (h : ∀ k, max (f k) (-f k) ≤ Ideal.ofBits .f32 0x7F7F0000#32) :
    kScale (amax f) = Ideal.exp2 (rExp (amax f)) ∧ kInv (amax f) = Ideal.exp2 (0 - rExp (amax f)) :=
  scale_eq _ (amax_nonneg f) (amax_lt f h)

/-- Where the precondition holds every activation's magnitude is at most the largest finite one. -/
theorem finite_of (A : FVec Ideal Cert.Pre_finite.S8x3072x7168 .bf16) (W : FVec Ideal Cert.Pre_finite.S8192x7168 .fp8e4m3)
    (S : FVec Ideal Cert.Pre_finite.S64x56 .f32) (h : Cert.Pre_finite.fn (F := Ideal) A W S = fun _ => 1#1) (y : Cert.Pre_finite.S8x3072x7168.Idx) :
    max (A y : EReal) (-(A y : EReal)) ≤ Ideal.ofBits .f32 0x7F7F0000#32 := by
  have e : Ideal.cmp .ole (max (A y : EReal) (-(A y : EReal))) (Ideal.ofBits .f32 0x7F7F0000#32) = 1#1 := congrFun h y
  by_contra hn
  unfold Ideal.cmp at e
  simp [hn] at e

end Cert.Own

end
-- ==== Proof.Equation.lean ====
/-
  The equation: over the extended reals, on activations of finite magnitude, the kernel's three formulas and the reference's
  payloads are the same arrays.
-/
module

public import proofs.«01_k».proof.Proof.RefValue
public import proofs.«01_k».proof.Proof.Bounds

@[expose] public section

set_option maxRecDepth 16384

noncomputable section

open Idealize.ShloMosaic Idealize.ShloMosaic.TcCoe Idealize.SL.Sem

namespace Cert.ReferenceIdeal.Own

open Cert.ReferenceIdeal.Gen Cert.Own

/-- `X3` is `X2` with each row's columns in groups of 128. -/
def Grouped (X2 : FVec Ideal S24576x7168 .bf16) (X3 : FVec Ideal S24576x56x128 .bf16) : Prop :=
  ∀ (r : Fin 24576) (g : Fin 56) (k : Fin 128), X3 (ix3 r g k) = X2 (ix2 r ⟨128 * g.val + k.val, by omega⟩)

/-- Every entry's magnitude is at most the largest finite one. -/
def Tame (X2 : FVec Ideal S24576x7168 .bf16) : Prop :=
  ∀ (r : Fin 24576) (l : Fin 7168), max (X2 (ix2 r l) : EReal) (-(X2 (ix2 r l) : EReal)) ≤ Ideal.ofBits .f32 0x7F7F0000#32

variable (X2 : FVec Ideal S24576x7168 .bf16) (X3 : FVec Ideal S24576x56x128 .bf16)

theorem lanes_eq (h : Grouped X2 X3) (r : Fin 24576) (g : Fin 56) : (fun k => X3 (ix3 r g k) : Fin 128 → EReal) = lanes X2 r g :=
  funext fun k => h r g k

theorem column_eq (h : Grouped X2 X3) (r : Fin 24576) (l : Fin 7168) :
    X3 (ix3 r ⟨l.val / 128, group_lt l⟩ ⟨l.val % 128, Nat.mod_lt _ (by decide)⟩) = X2 (ix2 r l) := by
  rw [h]
  refine congrArg (fun k => X2 (ix2 r k)) (Fin.ext ?_)
  show 128 * (l.val / 128) + l.val % 128 = l.val
  omega

theorem agree (t : Tame X2) (r : Fin 24576) (g : Fin 56) :
    kScale (amax (lanes X2 r g)) = rScale (amax (lanes X2 r g)) ∧ kInv (amax (lanes X2 r g)) = rInv (amax (lanes X2 r g)) :=
  scales_agree (lanes X2 r g) fun _ => t r _

/-- The scales. -/
theorem scales_equal (h : Grouped X2 X3) (t : Tame X2) : k0_pay5 (F := Ideal) X3 = scaleTable kScale X2 := by
  funext j
  obtain ⟨r, g, rfl⟩ : ∃ (r : Fin 24576) (g : Fin 56), j = ix2 r g := ⟨j 0, j 1, (ix2_eta j).symm⟩
  rw [scale_at, lanes_eq X2 X3 h]
  exact (agree X2 t r g).1.symm

theorem code_equal (h : Grouped X2 X3) (t : Tame X2) (r : Fin 24576) (l : Fin 7168) :
    k0_pay6 (F := Ideal) X3 (ix3 r ⟨l.val / 128, group_lt l⟩ ⟨l.val % 128, Nat.mod_lt _ (by decide)⟩) = code (kInv (amaxAt X2 r l)) (X2 (ix2 r l)) := by
  rw [code_at, lanes_eq X2 X3 h, column_eq X2 X3 h]
  unfold amaxAt
  rw [(agree X2 t r _).2]

/-- The codes. -/
theorem codes_equal (h : Grouped X2 X3) (t : Tame X2) : k0_pay2 (F := Ideal) (k0_pay6 (F := Ideal) X3) = codes kInv X2 := by
  funext j
  obtain ⟨r, l, rfl⟩ : ∃ (r : Fin 24576) (l : Fin 7168), j = ix2 r l := ⟨j 0, j 1, (ix2_eta j).symm⟩
  rw [codes_at, code_equal X2 X3 h t]
  rfl

theorem operand_equal (h : Grouped X2 X3) (t : Tame X2) (r : Fin 24576) (l : Fin 7168) :
    k0_pay7 (F := Ideal) X3 (ix3 r ⟨l.val / 128, group_lt l⟩ ⟨l.val % 128, Nat.mod_lt _ (by decide)⟩)
      = (code (kInv (amaxAt X2 r l)) (X2 (ix2 r l)) * kScale (amaxAt X2 r l) : EReal) := by
  rw [xq_at, lanes_eq X2 X3 h, column_eq X2 X3 h]
  unfold amaxAt
  rw [(agree X2 t r _).2, (agree X2 t r _).1]

/-- The products. -/
theorem prods_equal (h : Grouped X2 X3) (t : Tame X2) (W : FVec Ideal S8192x7168 .fp8e4m3) (S : FVec Ideal S64x56 .f32) :
    k0_pay1 (F := Ideal) (k0_pay7 (F := Ideal) X3) (k0_pay8 (F := Ideal) W S) = prods kInv kScale X2 W S := by
  funext j
  obtain ⟨r, n, rfl⟩ : ∃ (r : Fin 24576) (n : Fin 8192), j = ix2 r n := ⟨j 0, j 1, (ix2_eta j).symm⟩
  rw [prod_at]
  refine Finset.sum_congr rfl fun l _ => ?_
  rw [operand_equal X2 X3 h t, wq_at]
  rfl

end Cert.ReferenceIdeal.Own

end
-- ==== Proof.lean ====
/-
  The certificate: the three frames, the idealized kernel's being the kernel read over the extended reals, and that the
  idealized kernel leaves the arrays the reference leaves on activations of finite magnitude.
-/
module

public import proofs.«01_k».proof.Defs
public import proofs.«01_k».proof.Proof.KernelFrame.Frame
public import proofs.«01_k».proof.Proof.Arrays
public import proofs.«01_k».proof.Proof.Hosts
public import proofs.«01_k».proof.Proof.RefArrays
public import proofs.«01_k».proof.Proof.Equation
public import Idealize.ShloMosaic.Lib.Claim

@[expose] public section

set_option maxRecDepth 16384

noncomputable section

namespace Cert.Proof

open Idealize.ShloMosaic Idealize.ShloMosaic.TcCoe Idealize.SL.Sem
open Cert.KernelIdeal (nD τ sig)

section Kernel

open Cert.KernelIdeal Cert.KernelIdeal.Gen Cert.Own

variable (m : (ℓ : Loc nD τ sig) → Buf (Elt Ideal) ℓ)

/-- What the kernel leaves in its three result arrays, of the arguments; the arguments end as they began. -/
theorem kernel_run (g : Dev nD → PrngReg) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v1_0) = prods kInv kScale (V m c main_v0) (m ((c.tc : Thread nD τ).loc main_arg1)) (m ((c.tc : Thread nD τ).loc main_arg2))
      ∧ r.2.mem ((c.tc : Thread nD τ).loc main_v1_1) = codes kInv (V m c main_v0)
      ∧ r.2.mem ((c.tc : Thread nD τ).loc main_v1_2) = scaleTable kScale (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (θ_run_and (Cert.KernelIdeal.Own.run m g) (Cert.KernelIdeal.Own.unchanged m g))
  obtain ⟨hp, hu⟩ := h
  refine ⟨(hp.out_eq c 3).trans ?_, (hp.out_eq c 4).trans (Cert.KernelIdeal.Own.final4 m c), (hp.out_eq c 5).trans (Cert.KernelIdeal.Own.final5 m c), hu c⟩
  rw [← V_main_arg1 m c, ← V_main_arg2 m c]
  exact Cert.KernelIdeal.Own.final3 m c

end Kernel

section Reference

open Cert.ReferenceIdeal Cert.ReferenceIdeal.Gen

variable (m : (ℓ : Loc Cert.ReferenceIdeal.nD Cert.ReferenceIdeal.τ Cert.ReferenceIdeal.sig) → Buf (Elt Ideal) ℓ)

/-- What the reference leaves in its three result arrays, of the arguments; the arguments end as they began. -/
theorem reference_run (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v1_0)
          = k0_pay1 (F := Ideal) (k0_pay7 (F := Ideal) (V m c Cert.ReferenceIdeal.main_v0))
              (k0_pay8 (F := Ideal) (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_v1_1)
          = k0_pay2 (F := Ideal) (k0_pay6 (F := Ideal) (V m c Cert.ReferenceIdeal.main_v0))
      ∧ r.2.mem ((c.tc : Thread Cert.ReferenceIdeal.nD Cert.ReferenceIdeal.τ).loc Cert.ReferenceIdeal.main_v1_2)
          = k0_pay5 (F := Ideal) (V m c Cert.ReferenceIdeal.main_v0)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run _ _ _).mono (fun r h c => ?_) (θ_run_and (run_main m g) (unchanged m g))
  obtain ⟨hp, hu⟩ := h
  refine ⟨(hp.out_eq c 3).trans ?_, (hp.out_eq c 4).trans (Cert.ReferenceIdeal.Own.final4 m c), (hp.out_eq c 5).trans (Cert.ReferenceIdeal.Own.final5 m c), hu c⟩
  rw [← V_main_arg1 m c, ← V_main_arg2 m c]
  exact Cert.ReferenceIdeal.Own.final3 m c

end Reference

open Cert.ReferenceIdeal.Own (Grouped Tame)

/-- The two reshapes of one array of activations: the reference's is the kernel's, its columns in groups. -/
theorem grouped (A : FVec Ideal Cert.KernelIdeal.S8x3072x7168 .bf16) :
    Grouped (shapeCast Cert.KernelIdeal.S24576x7168 A Cert.KernelIdeal.Gen.shapeCasts_S8x3072x7168_S24576x7168)
      (shapeCast Cert.ReferenceIdeal.S24576x56x128 A Cert.ReferenceIdeal.Gen.shapeCasts_S8x3072x7168_S24576x56x128) := fun r g k =>
  (Cert.ReferenceIdeal.Own.grouped_at A r g k).trans (Cert.KernelIdeal.Own.flat_at A r _).symm

/-- Where the precondition holds, the reshaped activations are of finite magnitude. -/
theorem tame (A : FVec Ideal Cert.KernelIdeal.S8x3072x7168 .bf16) (W : FVec Ideal Cert.KernelIdeal.S8192x7168 .fp8e4m3) (S : FVec Ideal Cert.KernelIdeal.S64x56 .f32)
    (h : Cert.Pre_finite.fn (F := Ideal) A W S = fun _ => 1#1) :
    Tame (shapeCast Cert.KernelIdeal.S24576x7168 A Cert.KernelIdeal.Gen.shapeCasts_S8x3072x7168_S24576x7168) := fun r l => by
  rw [Cert.KernelIdeal.Own.flat_at A r l]
  exact Cert.Own.finite_of A W S h _

/-- The kernel leaves the arrays the reference leaves. -/
theorem algebraic : Cert.algebraic_KernelIdeal_ReferenceIdeal_pre_finite := by
  intro m g m' g' hpre hargs
  refine ⟨_, _, _, kernel_run m g, ?_⟩
  refine (θ_run _ _ _).mono (fun r h c => ?_) (reference_run m' g')
  obtain ⟨h0, h1, h2, ha⟩ := h c
  obtain ⟨e0, e1, e2⟩ := hargs c
  rw [Cert.ReferenceIdeal.Own.host_eq m' c, e0] at h0 h1 h2
  rw [e1, e2] at h0
  have hg := grouped (m ((c.tc : Thread nD τ).loc Cert.KernelIdeal.main_arg0))
  have ht := tame _ _ _ (hpre c)
  refine ⟨h0.trans ?_, h1.trans ?_, h2.trans ?_, ha⟩
  · rw [Cert.KernelIdeal.Own.host_eq m c]
    exact Cert.ReferenceIdeal.Own.prods_equal _ _ hg ht _ _
  · rw [Cert.KernelIdeal.Own.host_eq m c]
    exact Cert.ReferenceIdeal.Own.codes_equal _ _ hg ht
  · rw [Cert.KernelIdeal.Own.host_eq m c]
    exact Cert.ReferenceIdeal.Own.scales_equal _ _ hg ht

theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Own.frame m g, fun m g _ => Cert.KernelIdeal.Own.frame m g,
    fun m g _ => Cert.ReferenceIdeal.Gen.frame m g, fun m g _ => Cert.ReferenceIdeal.Gen.frame m g, trivial, algebraic⟩

end Cert.Proof

end
